-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S8x384x24x24 : Shape := ⟨4, ![8, 384, 24, 24]⟩
abbrev S384x384x1x1 : Shape := ⟨4, ![384, 384, 1, 1]⟩
abbrev S20x384x1x1 : Shape := ⟨4, ![20, 384, 1, 1]⟩
abbrev S20 : Shape := ⟨1, ![20]⟩
abbrev S20x384 : Shape := ⟨2, ![20, 384]⟩
abbrev S3x2x384x384x3x3 : Shape := ⟨6, ![3, 2, 384, 384, 3, 3]⟩
abbrev S3x2x384 : Shape := ⟨3, ![3, 2, 384]⟩
abbrev S8x20x1x1 : Shape := ⟨4, ![8, 20, 1, 1]⟩
abbrev S_ : Shape := ⟨0, ![]⟩

class Facts : Prop where
  bcast_S_S20x384x1x1 : S_.BroadcastsInDim S20x384x1x1 (![] : Fin 0 → Fin S20x384x1x1.rank)
  bcast_S_S20 : S_.BroadcastsInDim S20 (![] : Fin 0 → Fin S20.rank)
  bcast_S_S8x20x1x1 : S_.BroadcastsInDim S8x20x1x1 (![] : Fin 0 → Fin S8x20x1x1.rank)

variable [Facts]

def fn {F : FTy → Type} [FloatOps F] (main_arg0 : FVec F S8x384x24x24 .f32) (main_arg1 : FVec F S384x384x1x1 .f32) (main_arg2 : FVec F S20x384x1x1 .f32) (main_arg3 : FVec F S20 .f32) (main_arg4 : FVec F S20x384 .f32) (main_arg5 : FVec F S3x2x384x384x3x3 .f32) (main_arg6 : FVec F S3x2x384 .f32) (main_arg7 : FVec F S8x20x1x1 .f32) : IVec S20x384x1x1 1 × IVec S20 1 × IVec S8x20x1x1 1 :=
  let main_v0 : FVec F S20x384x1x1 .f32 := Host.absf main_arg2
  let main_cst : FVec F S_ .f32 := constant S_ .f32 0x7F800000#32
  let main_v1 : FVec F S20x384x1x1 .f32 := broadcastInDim S20x384x1x1 ![] bcast_S_S20x384x1x1 main_cst
  let main_v2 : IVec S20x384x1x1 1 := cmpf .olt main_v0 main_v1
  let main_v3 : FVec F S20 .f32 := Host.absf main_arg3
  let main_cst_0 : FVec F S_ .f32 := constant S_ .f32 0x7F800000#32
  let main_v4 : FVec F S20 .f32 := broadcastInDim S20 ![] bcast_S_S20 main_cst_0
  let main_v5 : IVec S20 1 := cmpf .olt main_v3 main_v4
  let main_v6 : FVec F S8x20x1x1 .f32 := Host.absf main_arg7
  let main_cst_1 : FVec F S_ .f32 := constant S_ .f32 0x7F800000#32
  let main_v7 : FVec F S8x20x1x1 .f32 := broadcastInDim S8x20x1x1 ![] bcast_S_S8x20x1x1 main_cst_1
  let main_v8 : IVec S8x20x1x1 1 := cmpf .olt main_v6 main_v7
  (main_v2, main_v5, main_v8)
-- ==== Kernel.lean ====
abbrev S8x384x24x24 : Shape := ⟨4, ![8, 384, 24, 24]⟩
abbrev S384x384x1x1 : Shape := ⟨4, ![384, 384, 1, 1]⟩
abbrev S20x384x1x1 : Shape := ⟨4, ![20, 384, 1, 1]⟩
abbrev S20 : Shape := ⟨1, ![20]⟩
abbrev S20x384 : Shape := ⟨2, ![20, 384]⟩
abbrev S3x2x384x384x3x3 : Shape := ⟨6, ![3, 2, 384, 384, 3, 3]⟩
abbrev S3x2x384 : Shape := ⟨3, ![3, 2, 384]⟩
abbrev S8x20x1x1 : Shape := ⟨4, ![8, 20, 1, 1]⟩
abbrev S8x24x24x384 : Shape := ⟨4, ![8, 24, 24, 384]⟩
abbrev S384x384 : Shape := ⟨2, ![384, 384]⟩
abbrev S384x20 : Shape := ⟨2, ![384, 20]⟩
abbrev S1x20 : Shape := ⟨2, ![1, 20]⟩
abbrev S8x20 : Shape := ⟨2, ![8, 20]⟩
abbrev S1x2x384x384x3x3 : Shape := ⟨6, ![1, 2, 384, 384, 3, 3]⟩
abbrev S2x384x384x3x3 : Shape := ⟨5, ![2, 384, 384, 3, 3]⟩
abbrev S2x3x3x384x384 : Shape := ⟨5, ![2, 3, 3, 384, 384]⟩
abbrev S2x3456x384 : Shape := ⟨3, ![2, 3456, 384]⟩
abbrev S1x2x384 : Shape := ⟨3, ![1, 2, 384]⟩
abbrev S2x384 : Shape := ⟨2, ![2, 384]⟩
abbrev S5120x384 : Shape := ⟨2, ![5120, 384]⟩
abbrev S640x1 : Shape := ⟨2, ![640, 1]⟩
abbrev S32x384 : Shape := ⟨2, ![32, 384]⟩
abbrev S8x576x384 : Shape := ⟨3, ![8, 576, 384]⟩
abbrev S8x384 : Shape := ⟨2, ![8, 384]⟩
abbrev S8 : Shape := ⟨1, ![8]⟩
abbrev S8x1 : Shape := ⟨2, ![8, 1]⟩
abbrev S8x1x384 : Shape := ⟨3, ![8, 1, 384]⟩
abbrev S1x576x384 : Shape := ⟨3, ![1, 576, 384]⟩
abbrev S576x384 : Shape := ⟨2, ![576, 384]⟩
abbrev S1x384 : Shape := ⟨2, ![1, 384]⟩
abbrev S384 : Shape := ⟨1, ![384]⟩
abbrev S640x384 : Shape := ⟨2, ![640, 384]⟩
abbrev S639x384 : Shape := ⟨2, ![639, 384]⟩
abbrev S576x3456 : Shape := ⟨2, ![576, 3456]⟩
abbrev S1x3456x384 : Shape := ⟨3, ![1, 3456, 384]⟩
abbrev S3456x384 : Shape := ⟨2, ![3456, 384]⟩
abbrev S24x24x384 : Shape := ⟨3, ![24, 24, 384]⟩
abbrev S1x24x24x384 : Shape := ⟨4, ![1, 24, 24, 384]⟩

abbrev nBuf : Space → Nat
  | .hbm => 39
  | .vmem => 18
  | .smem => 0
  | _ => 0

abbrev bufTy : (tb : Table) → Fin (tcTables nBuf tb) → BufTy
  | .hbm, ⟨0, _⟩ => ⟨S8x384x24x24, .f32⟩
  | .hbm, ⟨1, _⟩ => ⟨S384x384x1x1, .f32⟩
  | .hbm, ⟨2, _⟩ => ⟨S20x384x1x1, .f32⟩
  | .hbm, ⟨3, _⟩ => ⟨S20, .f32⟩
  | .hbm, ⟨4, _⟩ => ⟨S20x384, .f32⟩
  | .hbm, ⟨5, _⟩ => ⟨S3x2x384x384x3x3, .f32⟩
  | .hbm, ⟨6, _⟩ => ⟨S3x2x384, .f32⟩
  | .hbm, ⟨7, _⟩ => ⟨S8x20x1x1, .f32⟩
  | .hbm, ⟨8, _⟩ => ⟨S8x24x24x384, .f32⟩
  | .hbm, ⟨9, _⟩ => ⟨S384x384, .f32⟩
  | .hbm, ⟨10, _⟩ => ⟨S384x384, .f32⟩
  | .hbm, ⟨11, _⟩ => ⟨S20x384, .f32⟩
  | .hbm, ⟨12, _⟩ => ⟨S384x20, .f32⟩
  | .hbm, ⟨13, _⟩ => ⟨S1x20, .f32⟩
  | .hbm, ⟨14, _⟩ => ⟨S8x20, .f32⟩
  | .hbm, ⟨15, _⟩ => ⟨S1x2x384x384x3x3, .f32⟩
  | .hbm, ⟨16, _⟩ => ⟨S2x384x384x3x3, .f32⟩
  | .hbm, ⟨17, _⟩ => ⟨S2x384x384x3x3, .bf16⟩
  | .hbm, ⟨18, _⟩ => ⟨S2x3x3x384x384, .bf16⟩
  | .hbm, ⟨19, _⟩ => ⟨S2x3456x384, .bf16⟩
  | .hbm, ⟨20, _⟩ => ⟨S1x2x384x384x3x3, .f32⟩
  | .hbm, ⟨21, _⟩ => ⟨S2x384x384x3x3, .f32⟩
  | .hbm, ⟨22, _⟩ => ⟨S2x384x384x3x3, .bf16⟩
  | .hbm, ⟨23, _⟩ => ⟨S2x3x3x384x384, .bf16⟩
  | .hbm, ⟨24, _⟩ => ⟨S2x3456x384, .bf16⟩
  | .hbm, ⟨25, _⟩ => ⟨S1x2x384x384x3x3, .f32⟩
  | .hbm, ⟨26, _⟩ => ⟨S2x384x384x3x3, .f32⟩
  | .hbm, ⟨27, _⟩ => ⟨S2x384x384x3x3, .bf16⟩
  | .hbm, ⟨28, _⟩ => ⟨S2x3x3x384x384, .bf16⟩
  | .hbm, ⟨29, _⟩ => ⟨S2x3456x384, .bf16⟩
  | .hbm, ⟨30, _⟩ => ⟨S1x2x384, .f32⟩
  | .hbm, ⟨31, _⟩ => ⟨S2x384, .f32⟩
  | .hbm, ⟨32, _⟩ => ⟨S5120x384, .bf16⟩
  | .hbm, ⟨33, _⟩ => ⟨S1x2x384, .f32⟩
  | .hbm, ⟨34, _⟩ => ⟨S2x384, .f32⟩
  | .hbm, ⟨35, _⟩ => ⟨S1x2x384, .f32⟩
  | .hbm, ⟨36, _⟩ => ⟨S2x384, .f32⟩
  | .hbm, ⟨37, _⟩ => ⟨S8x24x24x384, .f32⟩
  | .hbm, ⟨38, _⟩ => ⟨S8x384x24x24, .f32⟩
  | .local _ .vmem, ⟨0, _⟩ => ⟨S8x24x24x384, .f32⟩
  | .local _ .vmem, ⟨1, _⟩ => ⟨S384x384, .f32⟩
  | .local _ .vmem, ⟨2, _⟩ => ⟨S384x20, .f32⟩
  | .local _ .vmem, ⟨3, _⟩ => ⟨S1x20, .f32⟩
  | .local _ .vmem, ⟨4, _⟩ => ⟨S8x20, .f32⟩
  | .local _ .vmem, ⟨5, _⟩ => ⟨S20x384, .f32⟩
  | .local _ .vmem, ⟨6, _⟩ => ⟨S2x3456x384, .bf16⟩
  | .local _ .vmem, ⟨7, _⟩ => ⟨S2x384, .f32⟩
  | .local _ .vmem, ⟨8, _⟩ => ⟨S5120x384, .bf16⟩
  | .local _ .vmem, ⟨9, _⟩ => ⟨S5120x384, .bf16⟩
  | .local _ .vmem, ⟨10, _⟩ => ⟨S5120x384, .bf16⟩
  | .local _ .vmem, ⟨11, _⟩ => ⟨S2x3456x384, .bf16⟩
  | .local _ .vmem, ⟨12, _⟩ => ⟨S2x384, .f32⟩
  | .local _ .vmem, ⟨13, _⟩ => ⟨S2x3456x384, .bf16⟩
  | .local _ .vmem, ⟨14, _⟩ => ⟨S2x384, .f32⟩
  | .local _ .vmem, ⟨15, _⟩ => ⟨S8x24x24x384, .f32⟩
  | .local _ .vmem, ⟨16, _⟩ => ⟨S5120x384, .bf16⟩
  | .local _ .vmem, ⟨17, _⟩ => ⟨S5120x384, .bf16⟩
  | _, _ => ⟨S8x384x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := .none

abbrev stage0_0 : Fin 1 → Memref sig .tc .vmem S8x24x24x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3456x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

abbrev stage1_0 : Fin 1 → Memref sig .tc .vmem S5120x384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x3456x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x3456x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x24x24x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S8x384x24x24 : Shape := ⟨4, ![8, 384, 24, 24]⟩
abbrev S384x384x1x1 : Shape := ⟨4, ![384, 384, 1, 1]⟩
abbrev S20x384x1x1 : Shape := ⟨4, ![20, 384, 1, 1]⟩
abbrev S20 : Shape := ⟨1, ![20]⟩
abbrev S20x384 : Shape := ⟨2, ![20, 384]⟩
abbrev S3x2x384x384x3x3 : Shape := ⟨6, ![3, 2, 384, 384, 3, 3]⟩
abbrev S3x2x384 : Shape := ⟨3, ![3, 2, 384]⟩
abbrev S8x20x1x1 : Shape := ⟨4, ![8, 20, 1, 1]⟩
abbrev S_ : Shape := ⟨0, ![]⟩
abbrev S8x384 : Shape := ⟨2, ![8, 384]⟩
abbrev S8x384x1x1 : Shape := ⟨4, ![8, 384, 1, 1]⟩
abbrev S384x384 : Shape := ⟨2, ![384, 384]⟩
abbrev S384x8x1x1 : Shape := ⟨4, ![384, 8, 1, 1]⟩
abbrev S20x8x1x1 : Shape := ⟨4, ![20, 8, 1, 1]⟩
abbrev S1x20x1x1 : Shape := ⟨4, ![1, 20, 1, 1]⟩
abbrev S8x1x1 : Shape := ⟨3, ![8, 1, 1]⟩
abbrev S8x1x1x1 : Shape := ⟨4, ![8, 1, 1, 1]⟩
abbrev S1x2x384x384x3x3 : Shape := ⟨6, ![1, 2, 384, 384, 3, 3]⟩
abbrev S2x384x384x3x3 : Shape := ⟨5, ![2, 384, 384, 3, 3]⟩
abbrev S1x2x384 : Shape := ⟨3, ![1, 2, 384]⟩
abbrev S2x384 : Shape := ⟨2, ![2, 384]⟩
abbrev S1x384x384x3x3 : Shape := ⟨5, ![1, 384, 384, 3, 3]⟩
abbrev S384x384x3x3 : Shape := ⟨4, ![384, 384, 3, 3]⟩
abbrev S1x384 : Shape := ⟨2, ![1, 384]⟩
abbrev S384 : Shape := ⟨1, ![384]⟩
abbrev S8x384x26x26 : Shape := ⟨4, ![8, 384, 26, 26]⟩
abbrev S384x8x24x24 : Shape := ⟨4, ![384, 8, 24, 24]⟩
abbrev S1x384x1x1 : Shape := ⟨4, ![1, 384, 1, 1]⟩

abbrev nBuf : Space → Nat
  | .hbm => 495
  | .vmem => 0
  | .smem => 0
  | _ => 0

abbrev hbmTy0_0 (i : Nat) : BufTy := match i % 128 with
  | 0 => ⟨S8x384x24x24, .f32⟩
  | 1 => ⟨S384x384x1x1, .f32⟩
  | 2 => ⟨S20x384x1x1, .f32⟩
  | 3 => ⟨S20, .f32⟩
  | 4 => ⟨S20x384, .f32⟩
  | 5 => ⟨S3x2x384x384x3x3, .f32⟩
  | 6 => ⟨S3x2x384, .f32⟩
  | 7 => ⟨S8x20x1x1, .f32⟩
  | 8 => ⟨S_, .f32⟩
  | 9 => ⟨S8x384, .f32⟩
  | 10 => ⟨S8x384x1x1, .f32⟩
  | 11 => ⟨S_, .f32⟩
  | 12 => ⟨S8x384x1x1, .f32⟩
  | 13 => ⟨S8x384x1x1, .f32⟩
  | 14 => ⟨S384x384, .f32⟩
  | 15 => ⟨S384x8x1x1, .f32⟩
  | 16 => ⟨S8x384x1x1, .f32⟩
  | 17 => ⟨S8x384x1x1, .f32⟩
  | 18 => ⟨S8x384x1x1, .f32⟩
  | 19 => ⟨S_, .f32⟩
  | 20 => ⟨S8x384x1x1, .f32⟩
  | 21 => ⟨S8x384x1x1, .f32⟩
  | 22 => ⟨S_, .f32⟩
  | 23 => ⟨S8x384x1x1, .f32⟩
  | 24 => ⟨S8x384x1x1, .f32⟩
  | 25 => ⟨S20x384, .f32⟩
  | 26 => ⟨S20x8x1x1, .f32⟩
  | 27 => ⟨S8x20x1x1, .f32⟩
  | 28 => ⟨S1x20x1x1, .f32⟩
  | 29 => ⟨S8x20x1x1, .f32⟩
  | 30 => ⟨S8x20x1x1, .f32⟩
  | 31 => ⟨S8x20x1x1, .f32⟩
  | 32 => ⟨S_, .f32⟩
  | 33 => ⟨S8x20x1x1, .f32⟩
  | 34 => ⟨S8x20x1x1, .f32⟩
  | 35 => ⟨S_, .f32⟩
  | 36 => ⟨S8x1x1, .f32⟩
  | 37 => ⟨S_, .f32⟩
  | 38 => ⟨S8x1x1, .f32⟩
  | 39 => ⟨S8x1x1, .f32⟩
  | 40 => ⟨S8x1x1x1, .f32⟩
  | 41 => ⟨S8x20x1x1, .f32⟩
  | 42 => ⟨S8x20x1x1, .f32⟩
  | 43 => ⟨S8x20x1x1, .f32⟩
  | 44 => ⟨S_, .f32⟩
  | 45 => ⟨S8x1x1, .f32⟩
  | 46 => ⟨S8x1x1x1, .f32⟩
  | 47 => ⟨S8x20x1x1, .f32⟩
  | 48 => ⟨S8x20x1x1, .f32⟩
  | 49 => ⟨S8x20x1x1, .i32⟩
  | 50 => ⟨S_, .f32⟩
  | 51 => ⟨S_, .i32⟩
  | 52 => ⟨S8x1x1, .f32⟩
  | 53 => ⟨S8x1x1, .i32⟩
  | 54 => ⟨S8x1x1x1, .i32⟩
  | 55 => ⟨S1x20x1x1, .i32⟩
  | 56 => ⟨S8x20x1x1, .i32⟩
  | 57 => ⟨S8x20x1x1, .i32⟩
  | 58 => ⟨S8x20x1x1, .i1⟩
  | 59 => ⟨S8x20x1x1, .f32⟩
  | 60 => ⟨S8x20x1x1, .f32⟩
  | 61 => ⟨S8x20x1x1, .f32⟩
  | 62 => ⟨S384x8x1x1, .f32⟩
  | 63 => ⟨S8x384x1x1, .f32⟩
  | 64 => ⟨S8x384x24x24, .f32⟩
  | 65 => ⟨S8x384x24x24, .f32⟩
  | 66 => ⟨S1x2x384x384x3x3, .f32⟩
  | 67 => ⟨S2x384x384x3x3, .f32⟩
  | 68 => ⟨S1x2x384, .f32⟩
  | 69 => ⟨S2x384, .f32⟩
  | 70 => ⟨S1x384x384x3x3, .f32⟩
  | 71 => ⟨S384x384x3x3, .f32⟩
  | 72 => ⟨S1x384, .f32⟩
  | 73 => ⟨S384, .f32⟩
  | 74 => ⟨S_, .i32⟩
  | 75 => ⟨S_, .f32⟩
  | 76 => ⟨S8x384x26x26, .f32⟩
  | 77 => ⟨S_, .f32⟩
  | 78 => ⟨S8x384x24x24, .f32⟩
  | 79 => ⟨S8x384x24x24, .f32⟩
  | 80 => ⟨S384x384x1x1, .f32⟩
  | 81 => ⟨S384x384, .f32⟩
  | 82 => ⟨S384x8x24x24, .f32⟩
  | 83 => ⟨S8x384x24x24, .f32⟩
  | 84 => ⟨S8x384x24x24, .f32⟩
  | 85 => ⟨S8x384x24x24, .f32⟩
  | 86 => ⟨S384x384x1x1, .f32⟩
  | 87 => ⟨S384x384, .f32⟩
  | 88 => ⟨S384x8x24x24, .f32⟩
  | 89 => ⟨S8x384x24x24, .f32⟩
  | 90 => ⟨S8x384x24x24, .f32⟩
  | 91 => ⟨S8x384x24x24, .f32⟩
  | 92 => ⟨S384x384x1x1, .f32⟩
  | 93 => ⟨S384x384, .f32⟩
  | 94 => ⟨S384x8x24x24, .f32⟩
  | 95 => ⟨S8x384x24x24, .f32⟩
  | 96 => ⟨S8x384x24x24, .f32⟩
  | 97 => ⟨S8x384x24x24, .f32⟩
  | 98 => ⟨S384x384x1x1, .f32⟩
  | 99 => ⟨S384x384, .f32⟩
  | 100 => ⟨S384x8x24x24, .f32⟩
  | 101 => ⟨S8x384x24x24, .f32⟩
  | 102 => ⟨S8x384x24x24, .f32⟩
  | 103 => ⟨S8x384x24x24, .f32⟩
  | 104 => ⟨S384x384x1x1, .f32⟩
  | 105 => ⟨S384x384, .f32⟩
  | 106 => ⟨S384x8x24x24, .f32⟩
  | 107 => ⟨S8x384x24x24, .f32⟩
  | 108 => ⟨S8x384x24x24, .f32⟩
  | 109 => ⟨S8x384x24x24, .f32⟩
  | 110 => ⟨S384x384x1x1, .f32⟩
  | 111 => ⟨S384x384, .f32⟩
  | 112 => ⟨S384x8x24x24, .f32⟩
  | 113 => ⟨S8x384x24x24, .f32⟩
  | 114 => ⟨S8x384x24x24, .f32⟩
  | 115 => ⟨S8x384x24x24, .f32⟩
  | 116 => ⟨S384x384x1x1, .f32⟩
  | 117 => ⟨S384x384, .f32⟩
  | 118 => ⟨S384x8x24x24, .f32⟩
  | 119 => ⟨S8x384x24x24, .f32⟩
  | 120 => ⟨S8x384x24x24, .f32⟩
  | 121 => ⟨S8x384x24x24, .f32⟩
  | 122 => ⟨S384x384x1x1, .f32⟩
  | 123 => ⟨S384x384, .f32⟩
  | 124 => ⟨S384x8x24x24, .f32⟩
  | 125 => ⟨S8x384x24x24, .f32⟩
  | 126 => ⟨S8x384x24x24, .f32⟩
  | 127 => ⟨S8x384x24x24, .f32⟩
  | _ => ⟨S8x384x24x24, .f32⟩

abbrev hbmTy0_1 (i : Nat) : BufTy := match i % 128 with
  | 0 => ⟨S384x384x1x1, .f32⟩
  | 1 => ⟨S384x384, .f32⟩
  | 2 => ⟨S384x8x24x24, .f32⟩
  | 3 => ⟨S8x384x24x24, .f32⟩
  | 4 => ⟨S8x384x24x24, .f32⟩
  | 5 => ⟨S1x384x1x1, .f32⟩
  | 6 => ⟨S8x384x24x24, .f32⟩
  | 7 => ⟨S8x384x24x24, .f32⟩
  | 8 => ⟨S_, .f32⟩
  | 9 => ⟨S8x384x24x24, .f32⟩
  | 10 => ⟨S8x384x24x24, .f32⟩
  | 11 => ⟨S1x384x384x3x3, .f32⟩
  | 12 => ⟨S384x384x3x3, .f32⟩
  | 13 => ⟨S1x384, .f32⟩
  | 14 => ⟨S384, .f32⟩
  | 15 => ⟨S_, .i32⟩
  | 16 => ⟨S_, .f32⟩
  | 17 => ⟨S8x384x26x26, .f32⟩
  | 18 => ⟨S_, .f32⟩
  | 19 => ⟨S8x384x24x24, .f32⟩
  | 20 => ⟨S8x384x24x24, .f32⟩
  | 21 => ⟨S384x384x1x1, .f32⟩
  | 22 => ⟨S384x384, .f32⟩
  | 23 => ⟨S384x8x24x24, .f32⟩
  | 24 => ⟨S8x384x24x24, .f32⟩
  | 25 => ⟨S8x384x24x24, .f32⟩
  | 26 => ⟨S8x384x24x24, .f32⟩
  | 27 => ⟨S384x384x1x1, .f32⟩
  | 28 => ⟨S384x384, .f32⟩
  | 29 => ⟨S384x8x24x24, .f32⟩
  | 30 => ⟨S8x384x24x24, .f32⟩
  | 31 => ⟨S8x384x24x24, .f32⟩
  | 32 => ⟨S8x384x24x24, .f32⟩
  | 33 => ⟨S384x384x1x1, .f32⟩
  | 34 => ⟨S384x384, .f32⟩
  | 35 => ⟨S384x8x24x24, .f32⟩
  | 36 => ⟨S8x384x24x24, .f32⟩
  | 37 => ⟨S8x384x24x24, .f32⟩
  | 38 => ⟨S8x384x24x24, .f32⟩
  | 39 => ⟨S384x384x1x1, .f32⟩
  | 40 => ⟨S384x384, .f32⟩
  | 41 => ⟨S384x8x24x24, .f32⟩
  | 42 => ⟨S8x384x24x24, .f32⟩
  | 43 => ⟨S8x384x24x24, .f32⟩
  | 44 => ⟨S8x384x24x24, .f32⟩
  | 45 => ⟨S384x384x1x1, .f32⟩
  | 46 => ⟨S384x384, .f32⟩
  | 47 => ⟨S384x8x24x24, .f32⟩
  | 48 => ⟨S8x384x24x24, .f32⟩
  | 49 => ⟨S8x384x24x24, .f32⟩
  | 50 => ⟨S8x384x24x24, .f32⟩
  | 51 => ⟨S384x384x1x1, .f32⟩
  | 52 => ⟨S384x384, .f32⟩
  | 53 => ⟨S384x8x24x24, .f32⟩
  | 54 => ⟨S8x384x24x24, .f32⟩
  | 55 => ⟨S8x384x24x24, .f32⟩
  | 56 => ⟨S8x384x24x24, .f32⟩
  | 57 => ⟨S384x384x1x1, .f32⟩
  | 58 => ⟨S384x384, .f32⟩
  | 59 => ⟨S384x8x24x24, .f32⟩
  | 60 => ⟨S8x384x24x24, .f32⟩
  | 61 => ⟨S8x384x24x24, .f32⟩
  | 62 => ⟨S8x384x24x24, .f32⟩
  | 63 => ⟨S384x384x1x1, .f32⟩
  | 64 => ⟨S384x384, .f32⟩
  | 65 => ⟨S384x8x24x24, .f32⟩
  | 66 => ⟨S8x384x24x24, .f32⟩
  | 67 => ⟨S8x384x24x24, .f32⟩
  | 68 => ⟨S8x384x24x24, .f32⟩
  | 69 => ⟨S384x384x1x1, .f32⟩
  | 70 => ⟨S384x384, .f32⟩
  | 71 => ⟨S384x8x24x24, .f32⟩
  | 72 => ⟨S8x384x24x24, .f32⟩
  | 73 => ⟨S8x384x24x24, .f32⟩
  | 74 => ⟨S1x384x1x1, .f32⟩
  | 75 => ⟨S8x384x24x24, .f32⟩
  | 76 => ⟨S8x384x24x24, .f32⟩
  | 77 => ⟨S8x384x24x24, .f32⟩
  | 78 => ⟨S_, .f32⟩
  | 79 => ⟨S8x384x24x24, .f32⟩
  | 80 => ⟨S8x384x24x24, .f32⟩
  | 81 => ⟨S1x2x384x384x3x3, .f32⟩
  | 82 => ⟨S2x384x384x3x3, .f32⟩
  | 83 => ⟨S1x2x384, .f32⟩
  | 84 => ⟨S2x384, .f32⟩
  | 85 => ⟨S1x384x384x3x3, .f32⟩
  | 86 => ⟨S384x384x3x3, .f32⟩
  | 87 => ⟨S1x384, .f32⟩
  | 88 => ⟨S384, .f32⟩
  | 89 => ⟨S_, .i32⟩
  | 90 => ⟨S_, .f32⟩
  | 91 => ⟨S8x384x26x26, .f32⟩
  | 92 => ⟨S_, .f32⟩
  | 93 => ⟨S8x384x24x24, .f32⟩
  | 94 => ⟨S8x384x24x24, .f32⟩
  | 95 => ⟨S384x384x1x1, .f32⟩
  | 96 => ⟨S384x384, .f32⟩
  | 97 => ⟨S384x8x24x24, .f32⟩
  | 98 => ⟨S8x384x24x24, .f32⟩
  | 99 => ⟨S8x384x24x24, .f32⟩
  | 100 => ⟨S8x384x24x24, .f32⟩
  | 101 => ⟨S384x384x1x1, .f32⟩
  | 102 => ⟨S384x384, .f32⟩
  | 103 => ⟨S384x8x24x24, .f32⟩
  | 104 => ⟨S8x384x24x24, .f32⟩
  | 105 => ⟨S8x384x24x24, .f32⟩
  | 106 => ⟨S8x384x24x24, .f32⟩
  | 107 => ⟨S384x384x1x1, .f32⟩
  | 108 => ⟨S384x384, .f32⟩
  | 109 => ⟨S384x8x24x24, .f32⟩
  | 110 => ⟨S8x384x24x24, .f32⟩
  | 111 => ⟨S8x384x24x24, .f32⟩
  | 112 => ⟨S8x384x24x24, .f32⟩
  | 113 => ⟨S384x384x1x1, .f32⟩
  | 114 => ⟨S384x384, .f32⟩
  | 115 => ⟨S384x8x24x24, .f32⟩
  | 116 => ⟨S8x384x24x24, .f32⟩
  | 117 => ⟨S8x384x24x24, .f32⟩
  | 118 => ⟨S8x384x24x24, .f32⟩
  | 119 => ⟨S384x384x1x1, .f32⟩
  | 120 => ⟨S384x384, .f32⟩
  | 121 => ⟨S384x8x24x24, .f32⟩
  | 122 => ⟨S8x384x24x24, .f32⟩
  | 123 => ⟨S8x384x24x24, .f32⟩
  | 124 => ⟨S8x384x24x24, .f32⟩
  | 125 => ⟨S384x384x1x1, .f32⟩
  | 126 => ⟨S384x384, .f32⟩
  | 127 => ⟨S384x8x24x24, .f32⟩
  | _ => ⟨S8x384x24x24, .f32⟩

abbrev hbmTy0_2 (i : Nat) : BufTy := match i % 128 with
  | 0 => ⟨S8x384x24x24, .f32⟩
  | 1 => ⟨S8x384x24x24, .f32⟩
  | 2 => ⟨S8x384x24x24, .f32⟩
  | 3 => ⟨S384x384x1x1, .f32⟩
  | 4 => ⟨S384x384, .f32⟩
  | 5 => ⟨S384x8x24x24, .f32⟩
  | 6 => ⟨S8x384x24x24, .f32⟩
  | 7 => ⟨S8x384x24x24, .f32⟩
  | 8 => ⟨S8x384x24x24, .f32⟩
  | 9 => ⟨S384x384x1x1, .f32⟩
  | 10 => ⟨S384x384, .f32⟩
  | 11 => ⟨S384x8x24x24, .f32⟩
  | 12 => ⟨S8x384x24x24, .f32⟩
  | 13 => ⟨S8x384x24x24, .f32⟩
  | 14 => ⟨S8x384x24x24, .f32⟩
  | 15 => ⟨S384x384x1x1, .f32⟩
  | 16 => ⟨S384x384, .f32⟩
  | 17 => ⟨S384x8x24x24, .f32⟩
  | 18 => ⟨S8x384x24x24, .f32⟩
  | 19 => ⟨S8x384x24x24, .f32⟩
  | 20 => ⟨S1x384x1x1, .f32⟩
  | 21 => ⟨S8x384x24x24, .f32⟩
  | 22 => ⟨S8x384x24x24, .f32⟩
  | 23 => ⟨S_, .f32⟩
  | 24 => ⟨S8x384x24x24, .f32⟩
  | 25 => ⟨S8x384x24x24, .f32⟩
  | 26 => ⟨S1x384x384x3x3, .f32⟩
  | 27 => ⟨S384x384x3x3, .f32⟩
  | 28 => ⟨S1x384, .f32⟩
  | 29 => ⟨S384, .f32⟩
  | 30 => ⟨S_, .i32⟩
  | 31 => ⟨S_, .f32⟩
  | 32 => ⟨S8x384x26x26, .f32⟩
  | 33 => ⟨S_, .f32⟩
  | 34 => ⟨S8x384x24x24, .f32⟩
  | 35 => ⟨S8x384x24x24, .f32⟩
  | 36 => ⟨S384x384x1x1, .f32⟩
  | 37 => ⟨S384x384, .f32⟩
  | 38 => ⟨S384x8x24x24, .f32⟩
  | 39 => ⟨S8x384x24x24, .f32⟩
  | 40 => ⟨S8x384x24x24, .f32⟩
  | 41 => ⟨S8x384x24x24, .f32⟩
  | 42 => ⟨S384x384x1x1, .f32⟩
  | 43 => ⟨S384x384, .f32⟩
  | 44 => ⟨S384x8x24x24, .f32⟩
  | 45 => ⟨S8x384x24x24, .f32⟩
  | 46 => ⟨S8x384x24x24, .f32⟩
  | 47 => ⟨S8x384x24x24, .f32⟩
  | 48 => ⟨S384x384x1x1, .f32⟩
  | 49 => ⟨S384x384, .f32⟩
  | 50 => ⟨S384x8x24x24, .f32⟩
  | 51 => ⟨S8x384x24x24, .f32⟩
  | 52 => ⟨S8x384x24x24, .f32⟩
  | 53 => ⟨S8x384x24x24, .f32⟩
  | 54 => ⟨S384x384x1x1, .f32⟩
  | 55 => ⟨S384x384, .f32⟩
  | 56 => ⟨S384x8x24x24, .f32⟩
  | 57 => ⟨S8x384x24x24, .f32⟩
  | 58 => ⟨S8x384x24x24, .f32⟩
  | 59 => ⟨S8x384x24x24, .f32⟩
  | 60 => ⟨S384x384x1x1, .f32⟩
  | 61 => ⟨S384x384, .f32⟩
  | 62 => ⟨S384x8x24x24, .f32⟩
  | 63 => ⟨S8x384x24x24, .f32⟩
  | 64 => ⟨S8x384x24x24, .f32⟩
  | 65 => ⟨S8x384x24x24, .f32⟩
  | 66 => ⟨S384x384x1x1, .f32⟩
  | 67 => ⟨S384x384, .f32⟩
  | 68 => ⟨S384x8x24x24, .f32⟩
  | 69 => ⟨S8x384x24x24, .f32⟩
  | 70 => ⟨S8x384x24x24, .f32⟩
  | 71 => ⟨S8x384x24x24, .f32⟩
  | 72 => ⟨S384x384x1x1, .f32⟩
  | 73 => ⟨S384x384, .f32⟩
  | 74 => ⟨S384x8x24x24, .f32⟩
  | 75 => ⟨S8x384x24x24, .f32⟩
  | 76 => ⟨S8x384x24x24, .f32⟩
  | 77 => ⟨S8x384x24x24, .f32⟩
  | 78 => ⟨S384x384x1x1, .f32⟩
  | 79 => ⟨S384x384, .f32⟩
  | 80 => ⟨S384x8x24x24, .f32⟩
  | 81 => ⟨S8x384x24x24, .f32⟩
  | 82 => ⟨S8x384x24x24, .f32⟩
  | 83 => ⟨S8x384x24x24, .f32⟩
  | 84 => ⟨S384x384x1x1, .f32⟩
  | 85 => ⟨S384x384, .f32⟩
  | 86 => ⟨S384x8x24x24, .f32⟩
  | 87 => ⟨S8x384x24x24, .f32⟩
  | 88 => ⟨S8x384x24x24, .f32⟩
  | 89 => ⟨S1x384x1x1, .f32⟩
  | 90 => ⟨S8x384x24x24, .f32⟩
  | 91 => ⟨S8x384x24x24, .f32⟩
  | 92 => ⟨S8x384x24x24, .f32⟩
  | 93 => ⟨S_, .f32⟩
  | 94 => ⟨S8x384x24x24, .f32⟩
  | 95 => ⟨S8x384x24x24, .f32⟩
  | 96 => ⟨S1x2x384x384x3x3, .f32⟩
  | 97 => ⟨S2x384x384x3x3, .f32⟩
  | 98 => ⟨S1x2x384, .f32⟩
  | 99 => ⟨S2x384, .f32⟩
  | 100 => ⟨S1x384x384x3x3, .f32⟩
  | 101 => ⟨S384x384x3x3, .f32⟩
  | 102 => ⟨S1x384, .f32⟩
  | 103 => ⟨S384, .f32⟩
  | 104 => ⟨S_, .i32⟩
  | 105 => ⟨S_, .f32⟩
  | 106 => ⟨S8x384x26x26, .f32⟩
  | 107 => ⟨S_, .f32⟩
  | 108 => ⟨S8x384x24x24, .f32⟩
  | 109 => ⟨S8x384x24x24, .f32⟩
  | 110 => ⟨S384x384x1x1, .f32⟩
  | 111 => ⟨S384x384, .f32⟩
  | 112 => ⟨S384x8x24x24, .f32⟩
  | 113 => ⟨S8x384x24x24, .f32⟩
  | 114 => ⟨S8x384x24x24, .f32⟩
  | 115 => ⟨S8x384x24x24, .f32⟩
  | 116 => ⟨S384x384x1x1, .f32⟩
  | 117 => ⟨S384x384, .f32⟩
  | 118 => ⟨S384x8x24x24, .f32⟩
  | 119 => ⟨S8x384x24x24, .f32⟩
  | 120 => ⟨S8x384x24x24, .f32⟩
  | 121 => ⟨S8x384x24x24, .f32⟩
  | 122 => ⟨S384x384x1x1, .f32⟩
  | 123 => ⟨S384x384, .f32⟩
  | 124 => ⟨S384x8x24x24, .f32⟩
  | 125 => ⟨S8x384x24x24, .f32⟩
  | 126 => ⟨S8x384x24x24, .f32⟩
  | 127 => ⟨S8x384x24x24, .f32⟩
  | _ => ⟨S8x384x24x24, .f32⟩

abbrev hbmTy0_3 (i : Nat) : BufTy := match i % 128 with
  | 0 => ⟨S384x384x1x1, .f32⟩
  | 1 => ⟨S384x384, .f32⟩
  | 2 => ⟨S384x8x24x24, .f32⟩
  | 3 => ⟨S8x384x24x24, .f32⟩
  | 4 => ⟨S8x384x24x24, .f32⟩
  | 5 => ⟨S8x384x24x24, .f32⟩
  | 6 => ⟨S384x384x1x1, .f32⟩
  | 7 => ⟨S384x384, .f32⟩
  | 8 => ⟨S384x8x24x24, .f32⟩
  | 9 => ⟨S8x384x24x24, .f32⟩
  | 10 => ⟨S8x384x24x24, .f32⟩
  | 11 => ⟨S8x384x24x24, .f32⟩
  | 12 => ⟨S384x384x1x1, .f32⟩
  | 13 => ⟨S384x384, .f32⟩
  | 14 => ⟨S384x8x24x24, .f32⟩
  | 15 => ⟨S8x384x24x24, .f32⟩
  | 16 => ⟨S8x384x24x24, .f32⟩
  | 17 => ⟨S8x384x24x24, .f32⟩
  | 18 => ⟨S384x384x1x1, .f32⟩
  | 19 => ⟨S384x384, .f32⟩
  | 20 => ⟨S384x8x24x24, .f32⟩
  | 21 => ⟨S8x384x24x24, .f32⟩
  | 22 => ⟨S8x384x24x24, .f32⟩
  | 23 => ⟨S8x384x24x24, .f32⟩
  | 24 => ⟨S384x384x1x1, .f32⟩
  | 25 => ⟨S384x384, .f32⟩
  | 26 => ⟨S384x8x24x24, .f32⟩
  | 27 => ⟨S8x384x24x24, .f32⟩
  | 28 => ⟨S8x384x24x24, .f32⟩
  | 29 => ⟨S8x384x24x24, .f32⟩
  | 30 => ⟨S384x384x1x1, .f32⟩
  | 31 => ⟨S384x384, .f32⟩
  | 32 => ⟨S384x8x24x24, .f32⟩
  | 33 => ⟨S8x384x24x24, .f32⟩
  | 34 => ⟨S8x384x24x24, .f32⟩
  | 35 => ⟨S1x384x1x1, .f32⟩
  | 36 => ⟨S8x384x24x24, .f32⟩
  | 37 => ⟨S8x384x24x24, .f32⟩
  | 38 => ⟨S_, .f32⟩
  | 39 => ⟨S8x384x24x24, .f32⟩
  | 40 => ⟨S8x384x24x24, .f32⟩
  | 41 => ⟨S1x384x384x3x3, .f32⟩
  | 42 => ⟨S384x384x3x3, .f32⟩
  | 43 => ⟨S1x384, .f32⟩
  | 44 => ⟨S384, .f32⟩
  | 45 => ⟨S_, .i32⟩
  | 46 => ⟨S_, .f32⟩
  | 47 => ⟨S8x384x26x26, .f32⟩
  | 48 => ⟨S_, .f32⟩
  | 49 => ⟨S8x384x24x24, .f32⟩
  | 50 => ⟨S8x384x24x24, .f32⟩
  | 51 => ⟨S384x384x1x1, .f32⟩
  | 52 => ⟨S384x384, .f32⟩
  | 53 => ⟨S384x8x24x24, .f32⟩
  | 54 => ⟨S8x384x24x24, .f32⟩
  | 55 => ⟨S8x384x24x24, .f32⟩
  | 56 => ⟨S8x384x24x24, .f32⟩
  | 57 => ⟨S384x384x1x1, .f32⟩
  | 58 => ⟨S384x384, .f32⟩
  | 59 => ⟨S384x8x24x24, .f32⟩
  | 60 => ⟨S8x384x24x24, .f32⟩
  | 61 => ⟨S8x384x24x24, .f32⟩
  | 62 => ⟨S8x384x24x24, .f32⟩
  | 63 => ⟨S384x384x1x1, .f32⟩
  | 64 => ⟨S384x384, .f32⟩
  | 65 => ⟨S384x8x24x24, .f32⟩
  | 66 => ⟨S8x384x24x24, .f32⟩
  | 67 => ⟨S8x384x24x24, .f32⟩
  | 68 => ⟨S8x384x24x24, .f32⟩
  | 69 => ⟨S384x384x1x1, .f32⟩
  | 70 => ⟨S384x384, .f32⟩
  | 71 => ⟨S384x8x24x24, .f32⟩
  | 72 => ⟨S8x384x24x24, .f32⟩
  | 73 => ⟨S8x384x24x24, .f32⟩
  | 74 => ⟨S8x384x24x24, .f32⟩
  | 75 => ⟨S384x384x1x1, .f32⟩
  | 76 => ⟨S384x384, .f32⟩
  | 77 => ⟨S384x8x24x24, .f32⟩
  | 78 => ⟨S8x384x24x24, .f32⟩
  | 79 => ⟨S8x384x24x24, .f32⟩
  | 80 => ⟨S8x384x24x24, .f32⟩
  | 81 => ⟨S384x384x1x1, .f32⟩
  | 82 => ⟨S384x384, .f32⟩
  | 83 => ⟨S384x8x24x24, .f32⟩
  | 84 => ⟨S8x384x24x24, .f32⟩
  | 85 => ⟨S8x384x24x24, .f32⟩
  | 86 => ⟨S8x384x24x24, .f32⟩
  | 87 => ⟨S384x384x1x1, .f32⟩
  | 88 => ⟨S384x384, .f32⟩
  | 89 => ⟨S384x8x24x24, .f32⟩
  | 90 => ⟨S8x384x24x24, .f32⟩
  | 91 => ⟨S8x384x24x24, .f32⟩
  | 92 => ⟨S8x384x24x24, .f32⟩
  | 93 => ⟨S384x384x1x1, .f32⟩
  | 94 => ⟨S384x384, .f32⟩
  | 95 => ⟨S384x8x24x24, .f32⟩
  | 96 => ⟨S8x384x24x24, .f32⟩
  | 97 => ⟨S8x384x24x24, .f32⟩
  | 98 => ⟨S8x384x24x24, .f32⟩
  | 99 => ⟨S384x384x1x1, .f32⟩
  | 100 => ⟨S384x384, .f32⟩
  | 101 => ⟨S384x8x24x24, .f32⟩
  | 102 => ⟨S8x384x24x24, .f32⟩
  | 103 => ⟨S8x384x24x24, .f32⟩
  | 104 => ⟨S1x384x1x1, .f32⟩
  | 105 => ⟨S8x384x24x24, .f32⟩
  | 106 => ⟨S8x384x24x24, .f32⟩
  | 107 => ⟨S8x384x24x24, .f32⟩
  | 108 => ⟨S_, .f32⟩
  | 109 => ⟨S8x384x24x24, .f32⟩
  | 110 => ⟨S8x384x24x24, .f32⟩
  | _ => ⟨S8x384x24x24, .f32⟩

abbrev hbmTy (i : Nat) : BufTy := match i / 128 with
  | 0 => hbmTy0_0 i
  | 1 => hbmTy0_1 i
  | 2 => hbmTy0_2 i
  | 3 => hbmTy0_3 i
  | _ => ⟨S8x384x24x24, .f32⟩

abbrev bufTy : (tb : Table) → Fin (tcTables nBuf tb) → BufTy
  | .hbm, ⟨i, _⟩ => hbmTy i
  | _, _ => ⟨S8x384x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_cst : Ref sig .tc := ⟨.hbm, 50, rfl⟩
abbrev main_call0_c : Ref sig .tc := ⟨.hbm, 51, rfl⟩
abbrev main_call0_v1_0 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_call0_c : Ref sig .tc := ⟨.hbm, 74, rfl⟩
abbrev main_call2_call0_call0_v0 : Ref sig .tc := ⟨.hbm, 75, rfl⟩
abbrev main_call2_call0_v0 : Ref sig .tc := ⟨.hbm, 76, rfl⟩
abbrev main_call2_call0_cst : Ref sig .tc := ⟨.hbm, 77, rfl⟩
abbrev main_call2_call0_v1 : Ref sig .tc := ⟨.hbm, 78, rfl⟩
abbrev main_call2_call0_v2 : Ref sig .tc := ⟨.hbm, 79, rfl⟩
abbrev main_call2_call0_v3 : Ref sig .tc := ⟨.hbm, 80, rfl⟩
abbrev main_call2_call0_v4 : Ref sig .tc := ⟨.hbm, 81, rfl⟩
abbrev main_call2_call0_v5 : Ref sig .tc := ⟨.hbm, 82, rfl⟩
abbrev main_call2_call0_v6 : Ref sig .tc := ⟨.hbm, 83, rfl⟩
abbrev main_call2_call0_v7 : Ref sig .tc := ⟨.hbm, 84, rfl⟩
abbrev main_call2_call0_v8 : Ref sig .tc := ⟨.hbm, 85, rfl⟩
abbrev main_call2_call0_v9 : Ref sig .tc := ⟨.hbm, 86, rfl⟩
abbrev main_call2_call0_v10 : Ref sig .tc := ⟨.hbm, 87, rfl⟩
abbrev main_call2_call0_v11 : Ref sig .tc := ⟨.hbm, 88, rfl⟩
abbrev main_call2_call0_v12 : Ref sig .tc := ⟨.hbm, 89, rfl⟩
abbrev main_call2_call0_v13 : Ref sig .tc := ⟨.hbm, 90, rfl⟩
abbrev main_call2_call0_v14 : Ref sig .tc := ⟨.hbm, 91, rfl⟩
abbrev main_call2_call0_v15 : Ref sig .tc := ⟨.hbm, 92, rfl⟩
abbrev main_call2_call0_v16 : Ref sig .tc := ⟨.hbm, 93, rfl⟩
abbrev main_call2_call0_v17 : Ref sig .tc := ⟨.hbm, 94, rfl⟩
abbrev main_call2_call0_v18 : Ref sig .tc := ⟨.hbm, 95, rfl⟩
abbrev main_call2_call0_v19 : Ref sig .tc := ⟨.hbm, 96, rfl⟩
abbrev main_call2_call0_v20 : Ref sig .tc := ⟨.hbm, 97, rfl⟩
abbrev main_call2_call0_v21 : Ref sig .tc := ⟨.hbm, 98, rfl⟩
abbrev main_call2_call0_v22 : Ref sig .tc := ⟨.hbm, 99, rfl⟩
abbrev main_call2_call0_v23 : Ref sig .tc := ⟨.hbm, 100, rfl⟩
abbrev main_call2_call0_v24 : Ref sig .tc := ⟨.hbm, 101, rfl⟩
abbrev main_call2_call0_v25 : Ref sig .tc := ⟨.hbm, 102, rfl⟩
abbrev main_call2_call0_v26 : Ref sig .tc := ⟨.hbm, 103, rfl⟩
abbrev main_call2_call0_v27 : Ref sig .tc := ⟨.hbm, 104, rfl⟩
abbrev main_call2_call0_v28 : Ref sig .tc := ⟨.hbm, 105, rfl⟩
abbrev main_call2_call0_v29 : Ref sig .tc := ⟨.hbm, 106, rfl⟩
abbrev main_call2_call0_v30 : Ref sig .tc := ⟨.hbm, 107, rfl⟩
abbrev main_call2_call0_v31 : Ref sig .tc := ⟨.hbm, 108, rfl⟩
abbrev main_call2_call0_v32 : Ref sig .tc := ⟨.hbm, 109, rfl⟩
abbrev main_call2_call0_v33 : Ref sig .tc := ⟨.hbm, 110, rfl⟩
abbrev main_call2_call0_v34 : Ref sig .tc := ⟨.hbm, 111, rfl⟩
abbrev main_call2_call0_v35 : Ref sig .tc := ⟨.hbm, 112, rfl⟩
abbrev main_call2_call0_v36 : Ref sig .tc := ⟨.hbm, 113, rfl⟩
abbrev main_call2_call0_v37 : Ref sig .tc := ⟨.hbm, 114, rfl⟩
abbrev main_call2_call0_v38 : Ref sig .tc := ⟨.hbm, 115, rfl⟩
abbrev main_call2_call0_v39 : Ref sig .tc := ⟨.hbm, 116, rfl⟩
abbrev main_call2_call0_v40 : Ref sig .tc := ⟨.hbm, 117, rfl⟩
abbrev main_call2_call0_v41 : Ref sig .tc := ⟨.hbm, 118, rfl⟩
abbrev main_call2_call0_v42 : Ref sig .tc := ⟨.hbm, 119, rfl⟩
abbrev main_call2_call0_v43 : Ref sig .tc := ⟨.hbm, 120, rfl⟩
abbrev main_call2_call0_v44 : Ref sig .tc := ⟨.hbm, 121, rfl⟩
abbrev main_call2_call0_v45 : Ref sig .tc := ⟨.hbm, 122, rfl⟩
abbrev main_call2_call0_v46 : Ref sig .tc := ⟨.hbm, 123, rfl⟩
abbrev main_call2_call0_v47 : Ref sig .tc := ⟨.hbm, 124, rfl⟩
abbrev main_call2_call0_v48 : Ref sig .tc := ⟨.hbm, 125, rfl⟩
abbrev main_call2_call0_v49 : Ref sig .tc := ⟨.hbm, 126, rfl⟩
abbrev main_call2_call0_v50 : Ref sig .tc := ⟨.hbm, 127, rfl⟩
abbrev main_call2_call0_v51 : Ref sig .tc := ⟨.hbm, 128, rfl⟩
abbrev main_call2_call0_v52 : Ref sig .tc := ⟨.hbm, 129, rfl⟩
abbrev main_call2_call0_v53 : Ref sig .tc := ⟨.hbm, 130, rfl⟩
abbrev main_call2_call0_v54 : Ref sig .tc := ⟨.hbm, 131, rfl⟩
abbrev main_call2_call0_v55 : Ref sig .tc := ⟨.hbm, 132, rfl⟩
abbrev main_call2_call0_v56 : Ref sig .tc := ⟨.hbm, 133, rfl⟩
abbrev main_call2_call0_v57 : Ref sig .tc := ⟨.hbm, 134, rfl⟩
abbrev main_call2_v4 : Ref sig .tc := ⟨.hbm, 135, rfl⟩
abbrev main_call2_call1_cst : Ref sig .tc := ⟨.hbm, 136, rfl⟩
abbrev main_call2_call1_v0 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_call2_c : Ref sig .tc := ⟨.hbm, 143, rfl⟩
abbrev main_call2_call2_call0_v0 : Ref sig .tc := ⟨.hbm, 144, rfl⟩
abbrev main_call2_call2_v0 : Ref sig .tc := ⟨.hbm, 145, rfl⟩
abbrev main_call2_call2_cst : Ref sig .tc := ⟨.hbm, 146, rfl⟩
abbrev main_call2_call2_v1 : Ref sig .tc := ⟨.hbm, 147, rfl⟩
abbrev main_call2_call2_v2 : Ref sig .tc := ⟨.hbm, 148, rfl⟩
abbrev main_call2_call2_v3 : Ref sig .tc := ⟨.hbm, 149, rfl⟩
abbrev main_call2_call2_v4 : Ref sig .tc := ⟨.hbm, 150, rfl⟩
abbrev main_call2_call2_v5 : Ref sig .tc := ⟨.hbm, 151, rfl⟩
abbrev main_call2_call2_v6 : Ref sig .tc := ⟨.hbm, 152, rfl⟩
abbrev main_call2_call2_v7 : Ref sig .tc := ⟨.hbm, 153, rfl⟩
abbrev main_call2_call2_v8 : Ref sig .tc := ⟨.hbm, 154, rfl⟩
abbrev main_call2_call2_v9 : Ref sig .tc := ⟨.hbm, 155, rfl⟩
abbrev main_call2_call2_v10 : Ref sig .tc := ⟨.hbm, 156, rfl⟩
abbrev main_call2_call2_v11 : Ref sig .tc := ⟨.hbm, 157, rfl⟩
abbrev main_call2_call2_v12 : Ref sig .tc := ⟨.hbm, 158, rfl⟩
abbrev main_call2_call2_v13 : Ref sig .tc := ⟨.hbm, 159, rfl⟩
abbrev main_call2_call2_v14 : Ref sig .tc := ⟨.hbm, 160, rfl⟩
abbrev main_call2_call2_v15 : Ref sig .tc := ⟨.hbm, 161, rfl⟩
abbrev main_call2_call2_v16 : Ref sig .tc := ⟨.hbm, 162, rfl⟩
abbrev main_call2_call2_v17 : Ref sig .tc := ⟨.hbm, 163, rfl⟩
abbrev main_call2_call2_v18 : Ref sig .tc := ⟨.hbm, 164, rfl⟩
abbrev main_call2_call2_v19 : Ref sig .tc := ⟨.hbm, 165, rfl⟩
abbrev main_call2_call2_v20 : Ref sig .tc := ⟨.hbm, 166, rfl⟩
abbrev main_call2_call2_v21 : Ref sig .tc := ⟨.hbm, 167, rfl⟩
abbrev main_call2_call2_v22 : Ref sig .tc := ⟨.hbm, 168, rfl⟩
abbrev main_call2_call2_v23 : Ref sig .tc := ⟨.hbm, 169, rfl⟩
abbrev main_call2_call2_v24 : Ref sig .tc := ⟨.hbm, 170, rfl⟩
abbrev main_call2_call2_v25 : Ref sig .tc := ⟨.hbm, 171, rfl⟩
abbrev main_call2_call2_v26 : Ref sig .tc := ⟨.hbm, 172, rfl⟩
abbrev main_call2_call2_v27 : Ref sig .tc := ⟨.hbm, 173, rfl⟩
abbrev main_call2_call2_v28 : Ref sig .tc := ⟨.hbm, 174, rfl⟩
abbrev main_call2_call2_v29 : Ref sig .tc := ⟨.hbm, 175, rfl⟩
abbrev main_call2_call2_v30 : Ref sig .tc := ⟨.hbm, 176, rfl⟩
abbrev main_call2_call2_v31 : Ref sig .tc := ⟨.hbm, 177, rfl⟩
abbrev main_call2_call2_v32 : Ref sig .tc := ⟨.hbm, 178, rfl⟩
abbrev main_call2_call2_v33 : Ref sig .tc := ⟨.hbm, 179, rfl⟩
abbrev main_call2_call2_v34 : Ref sig .tc := ⟨.hbm, 180, rfl⟩
abbrev main_call2_call2_v35 : Ref sig .tc := ⟨.hbm, 181, rfl⟩
abbrev main_call2_call2_v36 : Ref sig .tc := ⟨.hbm, 182, rfl⟩
abbrev main_call2_call2_v37 : Ref sig .tc := ⟨.hbm, 183, rfl⟩
abbrev main_call2_call2_v38 : Ref sig .tc := ⟨.hbm, 184, rfl⟩
abbrev main_call2_call2_v39 : Ref sig .tc := ⟨.hbm, 185, rfl⟩
abbrev main_call2_call2_v40 : Ref sig .tc := ⟨.hbm, 186, rfl⟩
abbrev main_call2_call2_v41 : Ref sig .tc := ⟨.hbm, 187, rfl⟩
abbrev main_call2_call2_v42 : Ref sig .tc := ⟨.hbm, 188, rfl⟩
abbrev main_call2_call2_v43 : Ref sig .tc := ⟨.hbm, 189, rfl⟩
abbrev main_call2_call2_v44 : Ref sig .tc := ⟨.hbm, 190, rfl⟩
abbrev main_call2_call2_v45 : Ref sig .tc := ⟨.hbm, 191, rfl⟩
abbrev main_call2_call2_v46 : Ref sig .tc := ⟨.hbm, 192, rfl⟩
abbrev main_call2_call2_v47 : Ref sig .tc := ⟨.hbm, 193, rfl⟩
abbrev main_call2_call2_v48 : Ref sig .tc := ⟨.hbm, 194, rfl⟩
abbrev main_call2_call2_v49 : Ref sig .tc := ⟨.hbm, 195, rfl⟩
abbrev main_call2_call2_v50 : Ref sig .tc := ⟨.hbm, 196, rfl⟩
abbrev main_call2_call2_v51 : Ref sig .tc := ⟨.hbm, 197, rfl⟩
abbrev main_call2_call2_v52 : Ref sig .tc := ⟨.hbm, 198, rfl⟩
abbrev main_call2_call2_v53 : Ref sig .tc := ⟨.hbm, 199, rfl⟩
abbrev main_call2_call2_v54 : Ref sig .tc := ⟨.hbm, 200, rfl⟩
abbrev main_call2_call2_v55 : Ref sig .tc := ⟨.hbm, 201, rfl⟩
abbrev main_call2_call2_v56 : Ref sig .tc := ⟨.hbm, 202, rfl⟩
abbrev main_call2_call2_v57 : Ref sig .tc := ⟨.hbm, 203, rfl⟩
abbrev main_call2_v10 : Ref sig .tc := ⟨.hbm, 204, rfl⟩
abbrev main_call2_v11 : Ref sig .tc := ⟨.hbm, 205, rfl⟩
abbrev main_call2_call3_cst : Ref sig .tc := ⟨.hbm, 206, rfl⟩
abbrev main_call2_call3_v0 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_call3_v0 : Ref sig .tc := ⟨.hbm, 213, rfl⟩
abbrev main_call3_v1 : Ref sig .tc := ⟨.hbm, 214, rfl⟩
abbrev main_call3_v2 : Ref sig .tc := ⟨.hbm, 215, rfl⟩
abbrev main_call3_v3 : Ref sig .tc := ⟨.hbm, 216, rfl⟩
abbrev main_call3_call0_c : Ref sig .tc := ⟨.hbm, 217, rfl⟩
abbrev main_call3_call0_call0_v0 : Ref sig .tc := ⟨.hbm, 218, rfl⟩
abbrev main_call3_call0_v0 : Ref sig .tc := ⟨.hbm, 219, rfl⟩
abbrev main_call3_call0_cst : Ref sig .tc := ⟨.hbm, 220, rfl⟩
abbrev main_call3_call0_v1 : Ref sig .tc := ⟨.hbm, 221, rfl⟩
abbrev main_call3_call0_v2 : Ref sig .tc := ⟨.hbm, 222, rfl⟩
abbrev main_call3_call0_v3 : Ref sig .tc := ⟨.hbm, 223, rfl⟩
abbrev main_call3_call0_v4 : Ref sig .tc := ⟨.hbm, 224, rfl⟩
abbrev main_call3_call0_v5 : Ref sig .tc := ⟨.hbm, 225, rfl⟩
abbrev main_call3_call0_v6 : Ref sig .tc := ⟨.hbm, 226, rfl⟩
abbrev main_call3_call0_v7 : Ref sig .tc := ⟨.hbm, 227, rfl⟩
abbrev main_call3_call0_v8 : Ref sig .tc := ⟨.hbm, 228, rfl⟩
abbrev main_call3_call0_v9 : Ref sig .tc := ⟨.hbm, 229, rfl⟩
abbrev main_call3_call0_v10 : Ref sig .tc := ⟨.hbm, 230, rfl⟩
abbrev main_call3_call0_v11 : Ref sig .tc := ⟨.hbm, 231, rfl⟩
abbrev main_call3_call0_v12 : Ref sig .tc := ⟨.hbm, 232, rfl⟩
abbrev main_call3_call0_v13 : Ref sig .tc := ⟨.hbm, 233, rfl⟩
abbrev main_call3_call0_v14 : Ref sig .tc := ⟨.hbm, 234, rfl⟩
abbrev main_call3_call0_v15 : Ref sig .tc := ⟨.hbm, 235, rfl⟩
abbrev main_call3_call0_v16 : Ref sig .tc := ⟨.hbm, 236, rfl⟩
abbrev main_call3_call0_v17 : Ref sig .tc := ⟨.hbm, 237, rfl⟩
abbrev main_call3_call0_v18 : Ref sig .tc := ⟨.hbm, 238, rfl⟩
abbrev main_call3_call0_v19 : Ref sig .tc := ⟨.hbm, 239, rfl⟩
abbrev main_call3_call0_v20 : Ref sig .tc := ⟨.hbm, 240, rfl⟩
abbrev main_call3_call0_v21 : Ref sig .tc := ⟨.hbm, 241, rfl⟩
abbrev main_call3_call0_v22 : Ref sig .tc := ⟨.hbm, 242, rfl⟩
abbrev main_call3_call0_v23 : Ref sig .tc := ⟨.hbm, 243, rfl⟩
abbrev main_call3_call0_v24 : Ref sig .tc := ⟨.hbm, 244, rfl⟩
abbrev main_call3_call0_v25 : Ref sig .tc := ⟨.hbm, 245, rfl⟩
abbrev main_call3_call0_v26 : Ref sig .tc := ⟨.hbm, 246, rfl⟩
abbrev main_call3_call0_v27 : Ref sig .tc := ⟨.hbm, 247, rfl⟩
abbrev main_call3_call0_v28 : Ref sig .tc := ⟨.hbm, 248, rfl⟩
abbrev main_call3_call0_v29 : Ref sig .tc := ⟨.hbm, 249, rfl⟩
abbrev main_call3_call0_v30 : Ref sig .tc := ⟨.hbm, 250, rfl⟩
abbrev main_call3_call0_v31 : Ref sig .tc := ⟨.hbm, 251, rfl⟩
abbrev main_call3_call0_v32 : Ref sig .tc := ⟨.hbm, 252, rfl⟩
abbrev main_call3_call0_v33 : Ref sig .tc := ⟨.hbm, 253, rfl⟩
abbrev main_call3_call0_v34 : Ref sig .tc := ⟨.hbm, 254, rfl⟩
abbrev main_call3_call0_v35 : Ref sig .tc := ⟨.hbm, 255, rfl⟩
abbrev main_call3_call0_v36 : Ref sig .tc := ⟨.hbm, 256, rfl⟩
abbrev main_call3_call0_v37 : Ref sig .tc := ⟨.hbm, 257, rfl⟩
abbrev main_call3_call0_v38 : Ref sig .tc := ⟨.hbm, 258, rfl⟩
abbrev main_call3_call0_v39 : Ref sig .tc := ⟨.hbm, 259, rfl⟩
abbrev main_call3_call0_v40 : Ref sig .tc := ⟨.hbm, 260, rfl⟩
abbrev main_call3_call0_v41 : Ref sig .tc := ⟨.hbm, 261, rfl⟩
abbrev main_call3_call0_v42 : Ref sig .tc := ⟨.hbm, 262, rfl⟩
abbrev main_call3_call0_v43 : Ref sig .tc := ⟨.hbm, 263, rfl⟩
abbrev main_call3_call0_v44 : Ref sig .tc := ⟨.hbm, 264, rfl⟩
abbrev main_call3_call0_v45 : Ref sig .tc := ⟨.hbm, 265, rfl⟩
abbrev main_call3_call0_v46 : Ref sig .tc := ⟨.hbm, 266, rfl⟩
abbrev main_call3_call0_v47 : Ref sig .tc := ⟨.hbm, 267, rfl⟩
abbrev main_call3_call0_v48 : Ref sig .tc := ⟨.hbm, 268, rfl⟩
abbrev main_call3_call0_v49 : Ref sig .tc := ⟨.hbm, 269, rfl⟩
abbrev main_call3_call0_v50 : Ref sig .tc := ⟨.hbm, 270, rfl⟩
abbrev main_call3_call0_v51 : Ref sig .tc := ⟨.hbm, 271, rfl⟩
abbrev main_call3_call0_v52 : Ref sig .tc := ⟨.hbm, 272, rfl⟩
abbrev main_call3_call0_v53 : Ref sig .tc := ⟨.hbm, 273, rfl⟩
abbrev main_call3_call0_v54 : Ref sig .tc := ⟨.hbm, 274, rfl⟩
abbrev main_call3_call0_v55 : Ref sig .tc := ⟨.hbm, 275, rfl⟩
abbrev main_call3_call0_v56 : Ref sig .tc := ⟨.hbm, 276, rfl⟩
abbrev main_call3_call0_v57 : Ref sig .tc := ⟨.hbm, 277, rfl⟩
abbrev main_call3_v4 : Ref sig .tc := ⟨.hbm, 278, rfl⟩
abbrev main_call3_call1_cst : Ref sig .tc := ⟨.hbm, 279, rfl⟩
abbrev main_call3_call1_v0 : Ref sig .tc := ⟨.hbm, 280, rfl⟩
abbrev main_call3_v5 : Ref sig .tc := ⟨.hbm, 281, rfl⟩
abbrev main_call3_v6 : Ref sig .tc := ⟨.hbm, 282, rfl⟩
abbrev main_call3_v7 : Ref sig .tc := ⟨.hbm, 283, rfl⟩
abbrev main_call3_v8 : Ref sig .tc := ⟨.hbm, 284, rfl⟩
abbrev main_call3_v9 : Ref sig .tc := ⟨.hbm, 285, rfl⟩
abbrev main_call3_call2_c : Ref sig .tc := ⟨.hbm, 286, rfl⟩
abbrev main_call3_call2_call0_v0 : Ref sig .tc := ⟨.hbm, 287, rfl⟩
abbrev main_call3_call2_v0 : Ref sig .tc := ⟨.hbm, 288, rfl⟩
abbrev main_call3_call2_cst : Ref sig .tc := ⟨.hbm, 289, rfl⟩
abbrev main_call3_call2_v1 : Ref sig .tc := ⟨.hbm, 290, rfl⟩
abbrev main_call3_call2_v2 : Ref sig .tc := ⟨.hbm, 291, rfl⟩
abbrev main_call3_call2_v3 : Ref sig .tc := ⟨.hbm, 292, rfl⟩
abbrev main_call3_call2_v4 : Ref sig .tc := ⟨.hbm, 293, rfl⟩
abbrev main_call3_call2_v5 : Ref sig .tc := ⟨.hbm, 294, rfl⟩
abbrev main_call3_call2_v6 : Ref sig .tc := ⟨.hbm, 295, rfl⟩
abbrev main_call3_call2_v7 : Ref sig .tc := ⟨.hbm, 296, rfl⟩
abbrev main_call3_call2_v8 : Ref sig .tc := ⟨.hbm, 297, rfl⟩
abbrev main_call3_call2_v9 : Ref sig .tc := ⟨.hbm, 298, rfl⟩
abbrev main_call3_call2_v10 : Ref sig .tc := ⟨.hbm, 299, rfl⟩
abbrev main_call3_call2_v11 : Ref sig .tc := ⟨.hbm, 300, rfl⟩
abbrev main_call3_call2_v12 : Ref sig .tc := ⟨.hbm, 301, rfl⟩
abbrev main_call3_call2_v13 : Ref sig .tc := ⟨.hbm, 302, rfl⟩
abbrev main_call3_call2_v14 : Ref sig .tc := ⟨.hbm, 303, rfl⟩
abbrev main_call3_call2_v15 : Ref sig .tc := ⟨.hbm, 304, rfl⟩
abbrev main_call3_call2_v16 : Ref sig .tc := ⟨.hbm, 305, rfl⟩
abbrev main_call3_call2_v17 : Ref sig .tc := ⟨.hbm, 306, rfl⟩
abbrev main_call3_call2_v18 : Ref sig .tc := ⟨.hbm, 307, rfl⟩
abbrev main_call3_call2_v19 : Ref sig .tc := ⟨.hbm, 308, rfl⟩
abbrev main_call3_call2_v20 : Ref sig .tc := ⟨.hbm, 309, rfl⟩
abbrev main_call3_call2_v21 : Ref sig .tc := ⟨.hbm, 310, rfl⟩
abbrev main_call3_call2_v22 : Ref sig .tc := ⟨.hbm, 311, rfl⟩
abbrev main_call3_call2_v23 : Ref sig .tc := ⟨.hbm, 312, rfl⟩
abbrev main_call3_call2_v24 : Ref sig .tc := ⟨.hbm, 313, rfl⟩
abbrev main_call3_call2_v25 : Ref sig .tc := ⟨.hbm, 314, rfl⟩
abbrev main_call3_call2_v26 : Ref sig .tc := ⟨.hbm, 315, rfl⟩
abbrev main_call3_call2_v27 : Ref sig .tc := ⟨.hbm, 316, rfl⟩
abbrev main_call3_call2_v28 : Ref sig .tc := ⟨.hbm, 317, rfl⟩
abbrev main_call3_call2_v29 : Ref sig .tc := ⟨.hbm, 318, rfl⟩
abbrev main_call3_call2_v30 : Ref sig .tc := ⟨.hbm, 319, rfl⟩
abbrev main_call3_call2_v31 : Ref sig .tc := ⟨.hbm, 320, rfl⟩
abbrev main_call3_call2_v32 : Ref sig .tc := ⟨.hbm, 321, rfl⟩
abbrev main_call3_call2_v33 : Ref sig .tc := ⟨.hbm, 322, rfl⟩
abbrev main_call3_call2_v34 : Ref sig .tc := ⟨.hbm, 323, rfl⟩
abbrev main_call3_call2_v35 : Ref sig .tc := ⟨.hbm, 324, rfl⟩
abbrev main_call3_call2_v36 : Ref sig .tc := ⟨.hbm, 325, rfl⟩
abbrev main_call3_call2_v37 : Ref sig .tc := ⟨.hbm, 326, rfl⟩
abbrev main_call3_call2_v38 : Ref sig .tc := ⟨.hbm, 327, rfl⟩
abbrev main_call3_call2_v39 : Ref sig .tc := ⟨.hbm, 328, rfl⟩
abbrev main_call3_call2_v40 : Ref sig .tc := ⟨.hbm, 329, rfl⟩
abbrev main_call3_call2_v41 : Ref sig .tc := ⟨.hbm, 330, rfl⟩
abbrev main_call3_call2_v42 : Ref sig .tc := ⟨.hbm, 331, rfl⟩
abbrev main_call3_call2_v43 : Ref sig .tc := ⟨.hbm, 332, rfl⟩
abbrev main_call3_call2_v44 : Ref sig .tc := ⟨.hbm, 333, rfl⟩
abbrev main_call3_call2_v45 : Ref sig .tc := ⟨.hbm, 334, rfl⟩
abbrev main_call3_call2_v46 : Ref sig .tc := ⟨.hbm, 335, rfl⟩
abbrev main_call3_call2_v47 : Ref sig .tc := ⟨.hbm, 336, rfl⟩
abbrev main_call3_call2_v48 : Ref sig .tc := ⟨.hbm, 337, rfl⟩
abbrev main_call3_call2_v49 : Ref sig .tc := ⟨.hbm, 338, rfl⟩
abbrev main_call3_call2_v50 : Ref sig .tc := ⟨.hbm, 339, rfl⟩
abbrev main_call3_call2_v51 : Ref sig .tc := ⟨.hbm, 340, rfl⟩
abbrev main_call3_call2_v52 : Ref sig .tc := ⟨.hbm, 341, rfl⟩
abbrev main_call3_call2_v53 : Ref sig .tc := ⟨.hbm, 342, rfl⟩
abbrev main_call3_call2_v54 : Ref sig .tc := ⟨.hbm, 343, rfl⟩
abbrev main_call3_call2_v55 : Ref sig .tc := ⟨.hbm, 344, rfl⟩
abbrev main_call3_call2_v56 : Ref sig .tc := ⟨.hbm, 345, rfl⟩
abbrev main_call3_call2_v57 : Ref sig .tc := ⟨.hbm, 346, rfl⟩
abbrev main_call3_v10 : Ref sig .tc := ⟨.hbm, 347, rfl⟩
abbrev main_call3_v11 : Ref sig .tc := ⟨.hbm, 348, rfl⟩
abbrev main_call3_call3_cst : Ref sig .tc := ⟨.hbm, 349, rfl⟩
abbrev main_call3_call3_v0 : Ref sig .tc := ⟨.hbm, 350, rfl⟩
abbrev main_v50 : Ref sig .tc := ⟨.hbm, 351, rfl⟩
abbrev main_v51 : Ref sig .tc := ⟨.hbm, 352, rfl⟩
abbrev main_v52 : Ref sig .tc := ⟨.hbm, 353, rfl⟩
abbrev main_v53 : Ref sig .tc := ⟨.hbm, 354, rfl⟩
abbrev main_v54 : Ref sig .tc := ⟨.hbm, 355, rfl⟩
abbrev main_call4_v0 : Ref sig .tc := ⟨.hbm, 356, rfl⟩
abbrev main_call4_v1 : Ref sig .tc := ⟨.hbm, 357, rfl⟩
abbrev main_call4_v2 : Ref sig .tc := ⟨.hbm, 358, rfl⟩
abbrev main_call4_v3 : Ref sig .tc := ⟨.hbm, 359, rfl⟩
abbrev main_call4_call0_c : Ref sig .tc := ⟨.hbm, 360, rfl⟩
abbrev main_call4_call0_call0_v0 : Ref sig .tc := ⟨.hbm, 361, rfl⟩
abbrev main_call4_call0_v0 : Ref sig .tc := ⟨.hbm, 362, rfl⟩
abbrev main_call4_call0_cst : Ref sig .tc := ⟨.hbm, 363, rfl⟩
abbrev main_call4_call0_v1 : Ref sig .tc := ⟨.hbm, 364, rfl⟩
abbrev main_call4_call0_v2 : Ref sig .tc := ⟨.hbm, 365, rfl⟩
abbrev main_call4_call0_v3 : Ref sig .tc := ⟨.hbm, 366, rfl⟩
abbrev main_call4_call0_v4 : Ref sig .tc := ⟨.hbm, 367, rfl⟩
abbrev main_call4_call0_v5 : Ref sig .tc := ⟨.hbm, 368, rfl⟩
abbrev main_call4_call0_v6 : Ref sig .tc := ⟨.hbm, 369, rfl⟩
abbrev main_call4_call0_v7 : Ref sig .tc := ⟨.hbm, 370, rfl⟩
abbrev main_call4_call0_v8 : Ref sig .tc := ⟨.hbm, 371, rfl⟩
abbrev main_call4_call0_v9 : Ref sig .tc := ⟨.hbm, 372, rfl⟩
abbrev main_call4_call0_v10 : Ref sig .tc := ⟨.hbm, 373, rfl⟩
abbrev main_call4_call0_v11 : Ref sig .tc := ⟨.hbm, 374, rfl⟩
abbrev main_call4_call0_v12 : Ref sig .tc := ⟨.hbm, 375, rfl⟩
abbrev main_call4_call0_v13 : Ref sig .tc := ⟨.hbm, 376, rfl⟩
abbrev main_call4_call0_v14 : Ref sig .tc := ⟨.hbm, 377, rfl⟩
abbrev main_call4_call0_v15 : Ref sig .tc := ⟨.hbm, 378, rfl⟩
abbrev main_call4_call0_v16 : Ref sig .tc := ⟨.hbm, 379, rfl⟩
abbrev main_call4_call0_v17 : Ref sig .tc := ⟨.hbm, 380, rfl⟩
abbrev main_call4_call0_v18 : Ref sig .tc := ⟨.hbm, 381, rfl⟩
abbrev main_call4_call0_v19 : Ref sig .tc := ⟨.hbm, 382, rfl⟩
abbrev main_call4_call0_v20 : Ref sig .tc := ⟨.hbm, 383, rfl⟩
abbrev main_call4_call0_v21 : Ref sig .tc := ⟨.hbm, 384, rfl⟩
abbrev main_call4_call0_v22 : Ref sig .tc := ⟨.hbm, 385, rfl⟩
abbrev main_call4_call0_v23 : Ref sig .tc := ⟨.hbm, 386, rfl⟩
abbrev main_call4_call0_v24 : Ref sig .tc := ⟨.hbm, 387, rfl⟩
abbrev main_call4_call0_v25 : Ref sig .tc := ⟨.hbm, 388, rfl⟩
abbrev main_call4_call0_v26 : Ref sig .tc := ⟨.hbm, 389, rfl⟩
abbrev main_call4_call0_v27 : Ref sig .tc := ⟨.hbm, 390, rfl⟩
abbrev main_call4_call0_v28 : Ref sig .tc := ⟨.hbm, 391, rfl⟩
abbrev main_call4_call0_v29 : Ref sig .tc := ⟨.hbm, 392, rfl⟩
abbrev main_call4_call0_v30 : Ref sig .tc := ⟨.hbm, 393, rfl⟩
abbrev main_call4_call0_v31 : Ref sig .tc := ⟨.hbm, 394, rfl⟩
abbrev main_call4_call0_v32 : Ref sig .tc := ⟨.hbm, 395, rfl⟩
abbrev main_call4_call0_v33 : Ref sig .tc := ⟨.hbm, 396, rfl⟩
abbrev main_call4_call0_v34 : Ref sig .tc := ⟨.hbm, 397, rfl⟩
abbrev main_call4_call0_v35 : Ref sig .tc := ⟨.hbm, 398, rfl⟩
abbrev main_call4_call0_v36 : Ref sig .tc := ⟨.hbm, 399, rfl⟩
abbrev main_call4_call0_v37 : Ref sig .tc := ⟨.hbm, 400, rfl⟩
abbrev main_call4_call0_v38 : Ref sig .tc := ⟨.hbm, 401, rfl⟩
abbrev main_call4_call0_v39 : Ref sig .tc := ⟨.hbm, 402, rfl⟩
abbrev main_call4_call0_v40 : Ref sig .tc := ⟨.hbm, 403, rfl⟩
abbrev main_call4_call0_v41 : Ref sig .tc := ⟨.hbm, 404, rfl⟩
abbrev main_call4_call0_v42 : Ref sig .tc := ⟨.hbm, 405, rfl⟩
abbrev main_call4_call0_v43 : Ref sig .tc := ⟨.hbm, 406, rfl⟩
abbrev main_call4_call0_v44 : Ref sig .tc := ⟨.hbm, 407, rfl⟩
abbrev main_call4_call0_v45 : Ref sig .tc := ⟨.hbm, 408, rfl⟩
abbrev main_call4_call0_v46 : Ref sig .tc := ⟨.hbm, 409, rfl⟩
abbrev main_call4_call0_v47 : Ref sig .tc := ⟨.hbm, 410, rfl⟩
abbrev main_call4_call0_v48 : Ref sig .tc := ⟨.hbm, 411, rfl⟩
abbrev main_call4_call0_v49 : Ref sig .tc := ⟨.hbm, 412, rfl⟩
abbrev main_call4_call0_v50 : Ref sig .tc := ⟨.hbm, 413, rfl⟩
abbrev main_call4_call0_v51 : Ref sig .tc := ⟨.hbm, 414, rfl⟩
abbrev main_call4_call0_v52 : Ref sig .tc := ⟨.hbm, 415, rfl⟩
abbrev main_call4_call0_v53 : Ref sig .tc := ⟨.hbm, 416, rfl⟩
abbrev main_call4_call0_v54 : Ref sig .tc := ⟨.hbm, 417, rfl⟩
abbrev main_call4_call0_v55 : Ref sig .tc := ⟨.hbm, 418, rfl⟩
abbrev main_call4_call0_v56 : Ref sig .tc := ⟨.hbm, 419, rfl⟩
abbrev main_call4_call0_v57 : Ref sig .tc := ⟨.hbm, 420, rfl⟩
abbrev main_call4_v4 : Ref sig .tc := ⟨.hbm, 421, rfl⟩
abbrev main_call4_call1_cst : Ref sig .tc := ⟨.hbm, 422, rfl⟩
abbrev main_call4_call1_v0 : Ref sig .tc := ⟨.hbm, 423, rfl⟩
abbrev main_call4_v5 : Ref sig .tc := ⟨.hbm, 424, rfl⟩
abbrev main_call4_v6 : Ref sig .tc := ⟨.hbm, 425, rfl⟩
abbrev main_call4_v7 : Ref sig .tc := ⟨.hbm, 426, rfl⟩
abbrev main_call4_v8 : Ref sig .tc := ⟨.hbm, 427, rfl⟩
abbrev main_call4_v9 : Ref sig .tc := ⟨.hbm, 428, rfl⟩
abbrev main_call4_call2_c : Ref sig .tc := ⟨.hbm, 429, rfl⟩
abbrev main_call4_call2_call0_v0 : Ref sig .tc := ⟨.hbm, 430, rfl⟩
abbrev main_call4_call2_v0 : Ref sig .tc := ⟨.hbm, 431, rfl⟩
abbrev main_call4_call2_cst : Ref sig .tc := ⟨.hbm, 432, rfl⟩
abbrev main_call4_call2_v1 : Ref sig .tc := ⟨.hbm, 433, rfl⟩
abbrev main_call4_call2_v2 : Ref sig .tc := ⟨.hbm, 434, rfl⟩
abbrev main_call4_call2_v3 : Ref sig .tc := ⟨.hbm, 435, rfl⟩
abbrev main_call4_call2_v4 : Ref sig .tc := ⟨.hbm, 436, rfl⟩
abbrev main_call4_call2_v5 : Ref sig .tc := ⟨.hbm, 437, rfl⟩
abbrev main_call4_call2_v6 : Ref sig .tc := ⟨.hbm, 438, rfl⟩
abbrev main_call4_call2_v7 : Ref sig .tc := ⟨.hbm, 439, rfl⟩
abbrev main_call4_call2_v8 : Ref sig .tc := ⟨.hbm, 440, rfl⟩
abbrev main_call4_call2_v9 : Ref sig .tc := ⟨.hbm, 441, rfl⟩
abbrev main_call4_call2_v10 : Ref sig .tc := ⟨.hbm, 442, rfl⟩
abbrev main_call4_call2_v11 : Ref sig .tc := ⟨.hbm, 443, rfl⟩
abbrev main_call4_call2_v12 : Ref sig .tc := ⟨.hbm, 444, rfl⟩
abbrev main_call4_call2_v13 : Ref sig .tc := ⟨.hbm, 445, rfl⟩
abbrev main_call4_call2_v14 : Ref sig .tc := ⟨.hbm, 446, rfl⟩
abbrev main_call4_call2_v15 : Ref sig .tc := ⟨.hbm, 447, rfl⟩
abbrev main_call4_call2_v16 : Ref sig .tc := ⟨.hbm, 448, rfl⟩
abbrev main_call4_call2_v17 : Ref sig .tc := ⟨.hbm, 449, rfl⟩
abbrev main_call4_call2_v18 : Ref sig .tc := ⟨.hbm, 450, rfl⟩
abbrev main_call4_call2_v19 : Ref sig .tc := ⟨.hbm, 451, rfl⟩
abbrev main_call4_call2_v20 : Ref sig .tc := ⟨.hbm, 452, rfl⟩
abbrev main_call4_call2_v21 : Ref sig .tc := ⟨.hbm, 453, rfl⟩
abbrev main_call4_call2_v22 : Ref sig .tc := ⟨.hbm, 454, rfl⟩
abbrev main_call4_call2_v23 : Ref sig .tc := ⟨.hbm, 455, rfl⟩
abbrev main_call4_call2_v24 : Ref sig .tc := ⟨.hbm, 456, rfl⟩
abbrev main_call4_call2_v25 : Ref sig .tc := ⟨.hbm, 457, rfl⟩
abbrev main_call4_call2_v26 : Ref sig .tc := ⟨.hbm, 458, rfl⟩
abbrev main_call4_call2_v27 : Ref sig .tc := ⟨.hbm, 459, rfl⟩
abbrev main_call4_call2_v28 : Ref sig .tc := ⟨.hbm, 460, rfl⟩
abbrev main_call4_call2_v29 : Ref sig .tc := ⟨.hbm, 461, rfl⟩
abbrev main_call4_call2_v30 : Ref sig .tc := ⟨.hbm, 462, rfl⟩
abbrev main_call4_call2_v31 : Ref sig .tc := ⟨.hbm, 463, rfl⟩
abbrev main_call4_call2_v32 : Ref sig .tc := ⟨.hbm, 464, rfl⟩
abbrev main_call4_call2_v33 : Ref sig .tc := ⟨.hbm, 465, rfl⟩
abbrev main_call4_call2_v34 : Ref sig .tc := ⟨.hbm, 466, rfl⟩
abbrev main_call4_call2_v35 : Ref sig .tc := ⟨.hbm, 467, rfl⟩
abbrev main_call4_call2_v36 : Ref sig .tc := ⟨.hbm, 468, rfl⟩
abbrev main_call4_call2_v37 : Ref sig .tc := ⟨.hbm, 469, rfl⟩
abbrev main_call4_call2_v38 : Ref sig .tc := ⟨.hbm, 470, rfl⟩
abbrev main_call4_call2_v39 : Ref sig .tc := ⟨.hbm, 471, rfl⟩
abbrev main_call4_call2_v40 : Ref sig .tc := ⟨.hbm, 472, rfl⟩
abbrev main_call4_call2_v41 : Ref sig .tc := ⟨.hbm, 473, rfl⟩
abbrev main_call4_call2_v42 : Ref sig .tc := ⟨.hbm, 474, rfl⟩
abbrev main_call4_call2_v43 : Ref sig .tc := ⟨.hbm, 475, rfl⟩
abbrev main_call4_call2_v44 : Ref sig .tc := ⟨.hbm, 476, rfl⟩
abbrev main_call4_call2_v45 : Ref sig .tc := ⟨.hbm, 477, rfl⟩
abbrev main_call4_call2_v46 : Ref sig .tc := ⟨.hbm, 478, rfl⟩
abbrev main_call4_call2_v47 : Ref sig .tc := ⟨.hbm, 479, rfl⟩
abbrev main_call4_call2_v48 : Ref sig .tc := ⟨.hbm, 480, rfl⟩
abbrev main_call4_call2_v49 : Ref sig .tc := ⟨.hbm, 481, rfl⟩
abbrev main_call4_call2_v50 : Ref sig .tc := ⟨.hbm, 482, rfl⟩
abbrev main_call4_call2_v51 : Ref sig .tc := ⟨.hbm, 483, rfl⟩
abbrev main_call4_call2_v52 : Ref sig .tc := ⟨.hbm, 484, rfl⟩
abbrev main_call4_call2_v53 : Ref sig .tc := ⟨.hbm, 485, rfl⟩
abbrev main_call4_call2_v54 : Ref sig .tc := ⟨.hbm, 486, rfl⟩
abbrev main_call4_call2_v55 : Ref sig .tc := ⟨.hbm, 487, rfl⟩
abbrev main_call4_call2_v56 : Ref sig .tc := ⟨.hbm, 488, rfl⟩
abbrev main_call4_call2_v57 : Ref sig .tc := ⟨.hbm, 489, rfl⟩
abbrev main_call4_v10 : Ref sig .tc := ⟨.hbm, 490, rfl⟩
abbrev main_call4_v11 : Ref sig .tc := ⟨.hbm, 491, rfl⟩
abbrev main_call4_call3_cst : Ref sig .tc := ⟨.hbm, 492, rfl⟩
abbrev main_call4_call3_v0 : Ref sig .tc := ⟨.hbm, 493, rfl⟩
abbrev main_v55 : Ref sig .tc := ⟨.hbm, 494, rfl⟩

abbrev nD : Nat := 1
abbrev τ : Topo := Topo.v7x

variable {F : FTy → Type} [FloatOps F]
-- ==== Proof.Line.lean ====
/- A straight line of host operations, each writing one new buffer.

   After the whole line has run, EVERY operation's equation holds of the final contents: the buffer it writes
   holds its function of the buffers it reads. This is so because the line writes each buffer once, in the order
   of the buffers' numbers, and reads only buffers of smaller number. So a value of the line is read off the final
   contents by the operations' equations alone, with no account of the order they ran in. -/
module

public import Idealize.ShloMosaic.Adequacy
public import Idealize.ShloMosaic.Init
public import Idealize.ShloMosaic.Lib.StableHlo.Run

@[expose] public section

namespace Cert.Line

open Idealize.ShloMosaic Idealize.SL.Sem Idealize.ShloMosaic.StableHlo Idealize.ShloMosaic.TcCoe

variable {τ : Topo} {sig : RefSig} {Val : EltTy → Type}

/-- One operation with the buffers it reads and the one it writes. -/
structure Op (τ : Topo) (sig : RefSig) (Val : EltTy → Type) where
  /-- The operation. -/
  op : HloOp τ sig Val
  /-- The buffers it reads. -/
  rd : List (Ref sig .tc)
  /-- The buffer it writes. -/
  wr : Ref sig .tc
  /-- It leaves the other buffers. -/
  other : ∀ (V : Valuation τ sig Val) (r : Ref sig .tc), r ≠ wr → op.result V r = V r
  /-- What it writes depends on what it reads only. -/
  reads : ∀ V V' : Valuation τ sig Val, (∀ r ∈ rd, V (Proc.devRef .tc r) = V' (Proc.devRef .tc r)) →
    op.result V (Proc.devRef .tc wr) = op.result V' (Proc.devRef .tc wr)
  /-- It determines its result. -/
  det : op.fresh = ∅
  /-- Its buffers are the TensorCore's. -/
  own : op.bufs ⊆ tcRefs τ sig

/-- `U` satisfies the operation's equation. -/
def Op.Holds (U : Valuation τ sig Val) (o : Op τ sig Val) : Prop :=
  o.op.result U (Proc.devRef .tc o.wr) = U (Proc.devRef .tc o.wr)

/-- `U` satisfies the equations of a list of operations. -/
def Holds (U : Valuation τ sig Val) (l : List (Op τ sig Val)) : Prop := ∀ o ∈ l, o.Holds U

@[simp] theorem holds_nil (U : Valuation τ sig Val) : Holds U ([] : List (Op τ sig Val)) ↔ True := by simp [Holds]
@[simp] theorem holds_cons (U : Valuation τ sig Val) (o : Op τ sig Val) (l : List (Op τ sig Val)) :
    Holds U (o :: l) ↔ o.Holds U ∧ Holds U l := by simp [Holds]
@[simp] theorem holds_append (U : Valuation τ sig Val) (l l' : List (Op τ sig Val)) :
    Holds U (l ++ l') ↔ Holds U l ∧ Holds U l' := by
  simp only [Holds, List.mem_append, or_imp, forall_and]

/-- The buffer is a device buffer and not scoped. -/
abbrev OnDev (τ : Topo) (y : Ref sig .tc) : Prop :=
  y.space ≠ .host ∧ (Proc.devRef (τ := τ) .tc y : DevRef τ sig).isScoped = false

section Builders
variable (a b c e y : Ref sig .tc)

/-- The operation with no operand. -/
def Op.nul (v : y.ty.Contents Val) (hy : OnDev τ y) : Op τ sig Val where
  op := nullary y v hy
  rd := []
  wr := y
  other V _ h := nullary_result_ne y v hy V h
  reads V V' _ := by rw [nullary_result, nullary_result]
  det := rfl
  own := nullary_bufs_sub y v hy

/-- The operation of one operand. -/
def Op.un (f : a.ty.Contents Val → y.ty.Contents Val) (ha : OnDev τ a) (hy : OnDev τ y) : Op τ sig Val where
  op := unary a y f ha hy
  rd := [a]
  wr := y
  other V _ h := unary_result_ne a y f ha hy V h
  reads V V' h := by rw [unary_result, unary_result, h a (by simp)]
  det := rfl
  own := unary_bufs_sub a y f ha hy

/-- The operation of two operands. -/
def Op.bin (f : a.ty.Contents Val → b.ty.Contents Val → y.ty.Contents Val) (ha : OnDev τ a) (hb : OnDev τ b) (hy : OnDev τ y) : Op τ sig Val where
  op := binary a b y f ha hb hy
  rd := [a, b]
  wr := y
  other V _ h := binary_result_ne a b y f ha hb hy V h
  reads V V' h := by rw [binary_result, binary_result, h a (by simp), h b (by simp)]
  det := rfl
  own := binary_bufs_sub a b y f ha hb hy

/-- The operation of four operands. -/
def Op.quat (f : a.ty.Contents Val → b.ty.Contents Val → c.ty.Contents Val → e.ty.Contents Val → y.ty.Contents Val)
    (ha : OnDev τ a) (hb : OnDev τ b) (hc : OnDev τ c) (he : OnDev τ e) (hy : OnDev τ y) : Op τ sig Val where
  op := quaternary a b c e y f ha hb hc he hy
  rd := [a, b, c, e]
  wr := y
  other V _ h := quaternary_result_ne a b c e y f ha hb hc he hy V h
  reads V V' h := by
    rw [quaternary_result, quaternary_result, h a (by simp), h b (by simp), h c (by simp), h e (by simp)]
  det := rfl
  own := quaternary_bufs_sub a b c e y f ha hb hc he hy

/-- The reshape. -/
def Op.resh (he : a.ty.elt = y.ty.elt) (hn : a.ty.shape.ShapeCasts y.ty.shape) (ha : OnDev τ a) (hy : OnDev τ y) : Op τ sig Val where
  op := reshape a y he hn ha hy
  rd := [a]
  wr := y
  other V _ h := reshape_result_ne a y he hn ha hy V h
  reads V V' h := by rw [reshape_result, reshape_result, h a (by simp)]
  det := rfl
  own := reshape_bufs_sub a y he hn ha hy

end Builders

/-! ## The equations hold of the final contents -/

/-- A buffer's number. -/
def num (r : Ref sig .tc) : Nat := r.idx.val

/-- The list writes the buffers `n, n + 1, …` in order, each operation reading smaller ones only. -/
def ordered : Nat → List (Op τ sig Val) → Bool
  | _, [] => true
  | n, o :: l => (num o.wr == n) && o.rd.all (fun r => Nat.blt (num r) n) && ordered (n + 1) l

/-- The operations as the run takes them. -/
abbrev opsOf (l : List (Op τ sig Val)) : List (HloOp τ sig Val) := l.map Op.op

/-- A buffer of number below `n` is untouched. -/
theorem after_low (l : List (Op τ sig Val)) : ∀ (n : Nat) (V : Valuation τ sig Val), ordered n l = true →
    ∀ r : Ref sig .tc, num r < n → after (opsOf l) V (Proc.devRef .tc r) = V (Proc.devRef .tc r) := by
  induction l with
  | nil => intros; rfl
  | cons o l ih =>
    intro n V h r hr
    simp only [ordered, Bool.and_eq_true, beq_iff_eq] at h
    obtain ⟨⟨hw, hrd⟩, hl⟩ := h
    show after (opsOf l) (o.op.result V) _ = _
    rw [ih (n + 1) _ hl r (by omega)]
    exact o.other V r (by rintro rfl; omega)

/-- After the line, every operation's equation holds. -/
theorem after_holds (l : List (Op τ sig Val)) : ∀ (n : Nat) (V : Valuation τ sig Val), ordered n l = true →
    Holds (after (opsOf l) V) l := by
  induction l with
  | nil => intro _ _ _; simp
  | cons o l ih =>
    intro n V h
    have h' := h
    simp only [ordered, Bool.and_eq_true, beq_iff_eq] at h'
    obtain ⟨⟨hw, hrd⟩, hl⟩ := h'
    rw [holds_cons]
    refine ⟨?_, ih (n + 1) (o.op.result V) hl⟩
    have e : after (opsOf (o :: l)) V = after (opsOf l) (o.op.result V) := rfl
    unfold Op.Holds
    rw [e, after_low l (n + 1) (o.op.result V) hl o.wr (by omega)]
    refine o.reads _ _ fun r hr => ?_
    have hlt : num r < n := by
      have := List.all_eq_true.1 hrd r hr
      exact Nat.blt_eq.mp this
    rw [after_low l (n + 1) (o.op.result V) hl r (by omega)]
    exact o.other V r (by rintro rfl; omega)

/-! ## The program as its list -/

section Prog
variable {nD : Nat} {Λ : Labels}

/-- The list run as a program. -/
abbrev run (l : List (Op τ sig Val)) : Prog (TpuEff nD τ sig Val Λ .tc) PUnit := seq (opsOf l)

theorem run_nil : (pure ⟨⟩ : Prog (TpuEff nD τ sig Val Λ .tc) PUnit) = run ([] : List (Op τ sig Val)) := rfl

theorem run_append {p k : Prog (TpuEff nD τ sig Val Λ .tc) PUnit} {l l' : List (Op τ sig Val)}
    (hp : p = run l) (hk : k = run l') : (p >>= fun _ => k) = run (l ++ l') := by
  rw [hp, hk, run, run, run, opsOf, opsOf, opsOf, List.map_append, seq_append]

theorem run_op {k : Prog (TpuEff nD τ sig Val Λ .tc) PUnit} (o : Op τ sig Val) {l : List (Op τ sig Val)}
    (hk : k = run l) : ((hlo rfl o.op fun _ => .ret (⟨⟩ : PUnit)) >>= fun _ => k) = run (o :: l) := by
  subst hk; rfl

theorem run_nul {k : Prog (TpuEff nD τ sig Val Λ .tc) PUnit} {l : List (Op τ sig Val)} (y : Ref sig .tc) (v hy)
    (hk : k = run l) :
    ((hlo rfl (nullary y v hy) fun _ => .ret (⟨⟩ : PUnit)) >>= fun _ => k) = run (Op.nul y v hy :: l) := run_op (Op.nul y v hy) hk

theorem run_un {k : Prog (TpuEff nD τ sig Val Λ .tc) PUnit} {l : List (Op τ sig Val)} (a y : Ref sig .tc) (f ha hy)
    (hk : k = run l) :
    ((hlo rfl (unary a y f ha hy) fun _ => .ret (⟨⟩ : PUnit)) >>= fun _ => k) = run (Op.un a y f ha hy :: l) :=
  run_op (Op.un a y f ha hy) hk

theorem run_bin {k : Prog (TpuEff nD τ sig Val Λ .tc) PUnit} {l : List (Op τ sig Val)} (a b y : Ref sig .tc) (f ha hb hy)
    (hk : k = run l) :
    ((hlo rfl (binary a b y f ha hb hy) fun _ => .ret (⟨⟩ : PUnit)) >>= fun _ => k) = run (Op.bin a b y f ha hb hy :: l) :=
  run_op (Op.bin a b y f ha hb hy) hk

theorem run_quat {k : Prog (TpuEff nD τ sig Val Λ .tc) PUnit} {l : List (Op τ sig Val)} (a b c e y : Ref sig .tc)
    (f ha hb hc he hy) (hk : k = run l) :
    ((hlo rfl (quaternary a b c e y f ha hb hc he hy) fun _ => .ret (⟨⟩ : PUnit)) >>= fun _ => k)
      = run (Op.quat a b c e y f ha hb hc he hy :: l) :=
  run_op (Op.quat a b c e y f ha hb hc he hy) hk

theorem run_resh {k : Prog (TpuEff nD τ sig Val Λ .tc) PUnit} {l : List (Op τ sig Val)} (a y : Ref sig .tc) (he hn ha hy)
    (hk : k = run l) :
    ((hlo rfl (reshape a y he hn ha hy) fun _ => .ret (⟨⟩ : PUnit)) >>= fun _ => k) = run (Op.resh a y he hn ha hy :: l) :=
  run_op (Op.resh a y he hn ha hy) hk

theorem run_last_un (a y : Ref sig .tc) (f ha hy) :
    (hlo rfl (unary a y f ha hy) fun _ => .ret (⟨⟩ : PUnit) : Prog (TpuEff nD τ sig Val Λ .tc) PUnit)
      = run [Op.un a y f ha hy] := rfl

end Prog

/-! ## The equations, as values -/

section Values
variable {T Ta Tb Tc Te Ty : BufTy}

/-- What a typed reference's buffer holds, at the reference's type. -/
def val (U : Valuation τ sig Val) (x : TRef sig T) : T.Contents Val := x.ofBuf (U (Proc.devRef .tc x.ref))

theorem nul_holds {U : Valuation τ sig Val} {y : Ref sig .tc} {v : y.ty.Contents Val} {hy} :
    (Op.nul (τ := τ) y v hy).Holds U ↔ v = U (Proc.devRef .tc y) := by
  show (nullary y v hy : HloOp τ sig Val).result U (Proc.devRef .tc y) = U (Proc.devRef .tc y) ↔ _
  rw [nullary_result]

theorem un_holds {U : Valuation τ sig Val} {a y : Ref sig .tc} {f : a.ty.Contents Val → y.ty.Contents Val} {ha hy} :
    (Op.un (τ := τ) a y f ha hy).Holds U ↔ f (U (Proc.devRef .tc a)) = U (Proc.devRef .tc y) := by
  show (unary a y f ha hy : HloOp τ sig Val).result U (Proc.devRef .tc y) = U (Proc.devRef .tc y) ↔ _
  rw [unary_result]

theorem bin_holds {U : Valuation τ sig Val} {a b y : Ref sig .tc} {f : a.ty.Contents Val → b.ty.Contents Val → y.ty.Contents Val}
    {ha hb hy} : (Op.bin (τ := τ) a b y f ha hb hy).Holds U
      ↔ f (U (Proc.devRef .tc a)) (U (Proc.devRef .tc b)) = U (Proc.devRef .tc y) := by
  show (binary a b y f ha hb hy : HloOp τ sig Val).result U (Proc.devRef .tc y) = U (Proc.devRef .tc y) ↔ _
  rw [binary_result]

theorem quat_holds {U : Valuation τ sig Val} {a b c e y : Ref sig .tc}
    {f : a.ty.Contents Val → b.ty.Contents Val → c.ty.Contents Val → e.ty.Contents Val → y.ty.Contents Val}
    {ha hb hc he hy} : (Op.quat (τ := τ) a b c e y f ha hb hc he hy).Holds U
      ↔ f (U (Proc.devRef .tc a)) (U (Proc.devRef .tc b)) (U (Proc.devRef .tc c)) (U (Proc.devRef .tc e))
        = U (Proc.devRef .tc y) := by
  show (quaternary a b c e y f ha hb hc he hy : HloOp τ sig Val).result U (Proc.devRef .tc y) = U (Proc.devRef .tc y) ↔ _
  rw [quaternary_result]

theorem cast_cast_eq {A Y : BufTy} (e : A = Y) (u : A.Contents Val) :
    cast (congrArg (fun U : BufTy => U.Contents Val) e.symm) (cast (congrArg (fun U : BufTy => U.Contents Val) e) u) = u := by
  subst e; rfl

/-- A typed reference's buffer holds `v`. -/
theorem toBuf_eq {U : Valuation τ sig Val} {y : TRef sig Ty} {v : Ty.Contents Val} :
    y.toBuf v = U (Proc.devRef .tc y.ref) ↔ val U y = v := by
  constructor
  · intro h; rw [val, ← h, TRef.ofBuf_toBuf]
  · rintro rfl; exact cast_cast_eq y.ty_eq _

theorem ofBuf_eq {U : Valuation τ sig Val} {y : TRef sig Ty} : y.ofBuf (U (Proc.devRef .tc y.ref)) = val U y := rfl

theorem cast_resh {A Y : BufTy} {s t : Shape} {elt : EltTy} (ea : A = ⟨s, elt⟩) (ey : Y = ⟨t, elt⟩) (he : A.elt = Y.elt)
    (hn : A.shape.ShapeCasts Y.shape) (hst : s.ShapeCasts t) (u : A.Contents Val) :
    cast (congrArg (fun U : BufTy => U.Contents Val) ey) (fun i => he ▸ shapeCast Y.shape u hn i : Y.Contents Val)
      = shapeCast t (cast (congrArg (fun U : BufTy => U.Contents Val) ea) u : (⟨s, elt⟩ : BufTy).Contents Val) hst := by
  subst ea ey; rfl

theorem val_resh {U : Valuation τ sig Val} {s t : Shape} {elt : EltTy} {a : TRef sig ⟨s, elt⟩} {y : TRef sig ⟨t, elt⟩}
    {he hn ha hy} (hst : s.ShapeCasts t) (h : (Op.resh (τ := τ) a.ref y.ref he hn ha hy).Holds U) :
    val U y = shapeCast t (val U a) hst := by
  have h : (reshape a.ref y.ref he hn ha hy : HloOp τ sig Val).result U y.ref = U y.ref := h
  rw [reshape_result] at h
  rw [val, ← h]
  exact cast_resh a.ty_eq y.ty_eq he hn hst _

end Values

end Cert.Line

end
-- ==== Proof.RefRun.lean ====
/- The reference runs: it is a straight line of host operations, each writing the next buffer; so its run leaves
   the arguments, moves no semaphore counter (it has none), and every operation's equation holds of the final
   contents (Line.lean). -/
module

public import proofs.«01_k».proof.Proof.Line
public import proofs.«01_k».proof.Proof.Gen.ReferenceIdeal
public import Idealize.ShloMosaic.Lib.Quiescent

@[expose] public section

set_option maxHeartbeats 2000000

noncomputable section

namespace Cert.RefRun

open Idealize.ShloMosaic Idealize.SL.Sem Cert.ReferenceIdeal Cert.Line Idealize.ShloMosaic.TcCoe

variable {F : FTy → Type} [FloatOps F] [Facts]

variable (F) in
/-- A program of the reference. -/
abbrev RProg : Type 1 := Prog (TpuEff nD τ sig (Elt F) (Pipeline.Sig Λ₀ (Fin 0) fun p => (pcfgs (F := F) p).Adm) .tc) PUnit

/-- A program together with the list of operations it is. -/
abbrev Listed (p : RProg F) : Type _ := {l : List (Op τ sig (Elt F)) // p = run l}

/-- The padding's operations. -/
def padOps (x : StableHlo.TRef sig ⟨S8x384x24x24, .f32⟩) (c : StableHlo.TRef sig ⟨S_, .i32⟩) (φ : fn_pad.Bufs) :
    Listed (F := F) (fn_pad.body x c φ) := by
  apply Subtype.mk
  · unfold fn_pad.body
    repeat' (first
      | with_reducible apply run_nul
      | with_reducible apply run_un
      | with_reducible apply run_bin
      | with_reducible apply run_quat
      | with_reducible apply run_resh
      | with_reducible exact run_nil
      | with_reducible exact run_last_un _ _ _ _ _)

/-- The rectifier's operations. -/
def reluOps (x : StableHlo.TRef sig ⟨S8x384x24x24, .f32⟩) (φ : fn_relu.Bufs) :
    Listed (F := F) (fn_relu.body x φ) := by
  apply Subtype.mk
  · unfold fn_relu.body
    repeat' (first
      | with_reducible apply run_nul
      | with_reducible apply run_un
      | with_reducible apply run_bin
      | with_reducible apply run_quat
      | with_reducible apply run_resh
      | with_reducible exact run_nil
      | with_reducible exact run_last_un _ _ _ _ _)

/-- The argmax's operations. -/
def argmaxOps (x : StableHlo.TRef sig ⟨S8x20x1x1, .f32⟩) (φ : fn_argmax.Bufs) :
    Listed (F := F) (fn_argmax.body x φ) := by
  apply Subtype.mk
  · unfold fn_argmax.body
    repeat' (first
      | with_reducible apply run_nul
      | with_reducible apply run_un
      | with_reducible apply run_bin
      | with_reducible apply run_quat
      | with_reducible apply run_resh
      | with_reducible exact run_nil
      | with_reducible exact run_last_un _ _ _ _ _)

/-- The one-hot's operations. -/
def oneHotOps (x : StableHlo.TRef sig ⟨S8x1x1, .i32⟩) (φ : fn_one_hot.Bufs) :
    Listed (F := F) (fn_one_hot.body x φ) := by
  apply Subtype.mk
  · unfold fn_one_hot.body
    repeat' (first
      | with_reducible apply run_nul
      | with_reducible apply run_un
      | with_reducible apply run_bin
      | with_reducible apply run_quat
      | with_reducible apply run_resh
      | with_reducible exact run_nil
      | with_reducible exact run_last_un _ _ _ _ _)

/-- The convolution's operations, its first sixty statements. -/
def convOps0 (x : StableHlo.TRef sig ⟨S8x384x24x24, .f32⟩) (w : StableHlo.TRef sig ⟨S384x384x3x3, .f32⟩)
    (b : StableHlo.TRef sig ⟨S384, .f32⟩) (φ : fn_conv3x3.Bufs) :
    Listed (F := F) (fn_conv3x3.body_part0 x w b φ) := by
  apply Subtype.mk
  · unfold fn_conv3x3.body_part0
    repeat' (first
      | with_reducible apply run_nul
      | with_reducible apply run_un
      | with_reducible apply run_bin
      | with_reducible apply run_quat
      | with_reducible apply run_resh
      | with_reducible exact run_nil
      | with_reducible exact run_last_un _ _ _ _ _
      | with_reducible apply run_append (padOps _ _ _).2)

/-- The convolution's last operations. -/
def convOps1 (x : StableHlo.TRef sig ⟨S8x384x24x24, .f32⟩) (w : StableHlo.TRef sig ⟨S384x384x3x3, .f32⟩)
    (b : StableHlo.TRef sig ⟨S384, .f32⟩) (φ : fn_conv3x3.Bufs) :
    Listed (F := F) (fn_conv3x3.body_part1 x w b φ) := by
  apply Subtype.mk
  · unfold fn_conv3x3.body_part1
    repeat' (first
      | with_reducible apply run_nul
      | with_reducible apply run_un
      | with_reducible apply run_bin
      | with_reducible apply run_quat
      | with_reducible apply run_resh
      | with_reducible exact run_nil
      | with_reducible exact run_last_un _ _ _ _ _)

/-- The convolution's operations. -/
def convOps (x : StableHlo.TRef sig ⟨S8x384x24x24, .f32⟩) (w : StableHlo.TRef sig ⟨S384x384x3x3, .f32⟩)
    (b : StableHlo.TRef sig ⟨S384, .f32⟩) (φ : fn_conv3x3.Bufs) :
    Listed (F := F) (fn_conv3x3.body x w b φ) :=
  ⟨_, run_append (convOps0 x w b φ).2 (convOps1 x w b φ).2⟩

/-- The residual block's operations. -/
def residualOps (x : StableHlo.TRef sig ⟨S8x384x24x24, .f32⟩) (w : StableHlo.TRef sig ⟨S2x384x384x3x3, .f32⟩)
    (b : StableHlo.TRef sig ⟨S2x384, .f32⟩) (φ : fn_residual.Bufs) :
    Listed (F := F) (fn_residual.body x w b φ) := by
  apply Subtype.mk
  · unfold fn_residual.body
    repeat' (first
      | with_reducible apply run_nul
      | with_reducible apply run_un
      | with_reducible apply run_bin
      | with_reducible apply run_quat
      | with_reducible apply run_resh
      | with_reducible exact run_nil
      | with_reducible exact run_last_un _ _ _ _ _
      | with_reducible apply run_append (convOps _ _ _ _).2
      | with_reducible apply run_append (reluOps _ _).2)

/-- The program's operations, its first sixty statements. -/
def mainOps0 (d : Dev nD) :
    Listed (F := F) (main_part0 d) := by
  apply Subtype.mk
  · unfold main_part0
    repeat' (first
      | with_reducible apply run_nul
      | with_reducible apply run_un
      | with_reducible apply run_bin
      | with_reducible apply run_quat
      | with_reducible apply run_resh
      | with_reducible exact run_nil
      | with_reducible exact run_last_un _ _ _ _ _
      | with_reducible apply run_append (argmaxOps _ _).2
      | with_reducible apply run_append (oneHotOps _ _).2
      | with_reducible apply run_append (residualOps _ _ _ _).2)

/-- The program's last operations. -/
def mainOps1 (d : Dev nD) :
    Listed (F := F) (main_part1 d) := by
  apply Subtype.mk
  · unfold main_part1
    repeat' (first
      | with_reducible apply run_nul
      | with_reducible apply run_un
      | with_reducible apply run_bin
      | with_reducible apply run_quat
      | with_reducible apply run_resh
      | with_reducible exact run_nil
      | with_reducible exact run_last_un _ _ _ _ _
      | with_reducible apply run_append (residualOps _ _ _ _).2)

/-- The program's operations. -/
def mainOps (d : Dev nD) : Listed (F := F) (main d) := ⟨_, run_append (mainOps0 d).2 (mainOps1 d).2⟩

theorem main_ordered (d : Dev nD) : ordered 8 (mainOps (F := F) d).1 = true := by
  rfl

variable (m : (ℓ : Loc nD τ sig) → Buf (Elt F) ℓ) (ρ : Dev nD → PrngReg)

/-- What the device's buffers hold at the end. -/
def final (d : Dev nD) : Valuation τ sig (Elt F) :=
  StableHlo.after (opsOf (mainOps d).1) (StableHlo.launchContents m d)

/-- Every operation's equation holds of it. -/
theorem final_holds (d : Dev nD) : Holds (final m d) (mainOps d).1 := after_holds _ 8 _ (main_ordered d)

/-- The arguments' buffers are as launched. -/
theorem final_arg (d : Dev nD) (r : Ref sig .tc) (h : num r < 8) : final m d (Proc.devRef .tc r) = m (d, Proc.devRef .tc r) :=
  after_low _ 8 _ (main_ordered d) r h

theorem no_scoped : (Finset.univ.filter fun b : Ref sig .tc => b.isScoped) = ∅ := by decide
theorem no_scoped_sem : (Finset.univ.filter fun sm : SemLoc sig => sm.isScoped .tc) = ∅ := by decide

/-- The reference's run: it ends with every buffer at its final contents and every counter at zero. -/
theorem runs : θ_run defs (onTc (τ := τ) (main (F := F))) ⟨m, fun _ => 0, ρ⟩ (fun r =>
    (∀ (d : Dev nD) (b : Ref sig .tc), r.2.mem ((d.tc : Thread nD τ).loc b) = final m d (Proc.devRef .tc b))
      ∧ r.2.sem = fun _ => 0) :=
  (θ_run defs _ _).mono (fun _ h => ⟨h, sem_eq_zero_of_no_sems rfl _⟩)
    (StableHlo.run_seq no_scoped no_scoped_sem defs main (fun d => opsOf (mainOps d).1) (fun d => (mainOps d).2)
      (fun d => List.forall_iff_forall_mem.2 fun o ho => by
        obtain ⟨o, -, rfl⟩ := List.mem_map.1 ho
        exact o.own) m ρ
      (fun d o ho => by
        obtain ⟨o, -, rfl⟩ := List.mem_map.1 ho
        exact o.det))

end Cert.RefRun

end
-- ==== Proof.KernelRun.lean ====
/- The kernel's run, every buffer named: at the end each holds what the last stretch of the host's lines leaves there. -/
module

public import proofs.«01_k».proof.Proof.Gen.KernelIdeal.Frame

@[expose] public section

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The machine's resources. -/
local notation "𝕄" => MT nD τ sig Unit (Elt F) ℕ (UR sig nD τ) ℕ

variable (m : (ℓ : Loc nD τ sig) → Buf (Elt F) ℓ) (ρ : Dev nD → PrngReg)

-- the launch's implicit arguments are found by unfolding plain definitions in a metavariable's type
set_option backward.isDefEq.respectTransparency.types false in
/-- Every buffer the program keeps ends at the last boundary's contents. -/
theorem runs : θ_run (defs (F := F)) (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.KernelRun

end
-- ==== Proof.Store.lean ====
/- A padded array of the kernel: eight images of 640 rows each, 32 rows of zeros, 576 rows of the image, 32 rows of
   zeros. It is filled by stores of 32 zero rows and of 576 image rows; here is what a load of an image's 640 rows, or of
   its 576 rows, reads of such stores. -/
module

public import Idealize.ShloMosaic.Lib.WholeRead
public import proofs.«01_k».proof.Proof.Gen.KernelIdeal
public import Idealize.ShloMosaic.Lib.Pipeline.FrameBody
public import Idealize.ShloMosaic.Lib.Pipeline.Value
public import Idealize.ShloMosaic.Lib.Pointwise
public import Idealize.ShloMosaic.Lib.Pipeline.ValueKit.Tiles

@[expose] public section

set_option maxRecDepth 16384

noncomputable section

namespace Cert.Store

open Idealize.ShloMosaic Cert.KernelIdeal

/-- The stores made so far, the last one first. -/
abbrev Pieces : Type := List (View.Piece (Elt Ideal) S5120x384 .bf16)

/-- One image: 576 rows of 384 channels. -/
abbrev Img : Type := FVec Ideal S576x384 .bf16

/-- One image between its zero rows. -/
def padded (p : Img) : Vec Ideal S640x384 .bf16 := fun j =>
  if h : 32 ≤ (j 0).val ∧ (j 0).val < 608 then p (ix2 ⟨(j 0).val - 32, by omega⟩ (j 1)) else 0

/-- The rows around the images hold zeros. -/
def Pads (L : Pieces) : Prop :=
  ∀ y : S5120x384.Idx, ((y 0).val % 640 < 32 ∨ 608 ≤ (y 0).val % 640) → View.canon L y = (0 : EReal)

/-- The rows of image `b` hold `p`. -/
def At (L : Pieces) (b : ℕ) (p : Img) : Prop :=
  ∀ (y : S5120x384.Idx) (x : S576x384.Idx), (y 0).val = 640 * b + 32 + (x 0).val → (y 1).val = (x 1).val →
    View.canon L y = p x

/-- The array holds the eight images between zeros. -/
def Full (L : Pieces) (f : ℕ → Img) : Prop := Pads L ∧ ∀ b, b < 8 → At L b (f b)

variable {L : Pieces}

/-- Storing an image leaves it in its rows, -/
theorem At.new (b : ℕ) (inb : ∀ a, (![640 * b + 32, 0] : Fin 2 → ℕ) a + S576x384.size a ≤ S5120x384.size a) (p : Img) :
    At (⟨Rect.unit (s := S5120x384) ![640 * b + 32, 0] S576x384.size inb, p⟩ :: L) b p := by
  intro y x h0 h1
  have hy : (Rect.unit (s := S5120x384) ![640 * b + 32, 0] S576x384.size inb).emb x = y := by
    funext a
    apply Fin.ext
    refine (Rect.idx_unit_val _ _ inb x a).trans ?_
    fin_cases a
    · exact h0.symm
    · simpa using h1.symm
  rw [← hy]
  exact View.canon_cons_emb _ _ _ _

/-- the other images as they were, -/
theorem At.old {b b' : ℕ} {q : Img} (h : At L b q) (hb : b' ≠ b)
    (inb : ∀ a, (![640 * b' + 32, 0] : Fin 2 → ℕ) a + S576x384.size a ≤ S5120x384.size a) (p : Img) :
    At (⟨Rect.unit (s := S5120x384) ![640 * b' + 32, 0] S576x384.size inb, p⟩ :: L) b q := by
  intro y x h0 h1
  rw [View.canon_cons_of_not_mem]
  · exact h y x h0 h1
  · rw [Rect.mem_set_unit]
    intro hm
    have := hm 0
    have hx : (x 0).val < 576 := (x 0).isLt
    simp at this
    omega

/-- and the zeros as they were. -/
theorem Pads.cons (h : Pads L) (b : ℕ)
    (inb : ∀ a, (![640 * b + 32, 0] : Fin 2 → ℕ) a + S576x384.size a ≤ S5120x384.size a) (p : Img) :
    Pads (⟨Rect.unit (s := S5120x384) ![640 * b + 32, 0] S576x384.size inb, p⟩ :: L) := by
  intro y hy
  rw [View.canon_cons_of_not_mem]
  · exact h y hy
  · rw [Rect.mem_set_unit]
    intro hm
    have := hm 0
    simp at this
    omega

/-- A store of 32 rows of zeros leaves zeros there and the rest as it was. -/
theorem zero_of_cons {o : ℕ} {inb : ∀ a, (![o, 0] : Fin 2 → ℕ) a + S32x384.size a ≤ S5120x384.size a} {z : FVec Ideal S32x384 .bf16}
    (hz : ∀ x, z x = (0 : EReal)) (y : S5120x384.Idx)
    (h : (o ≤ (y 0).val ∧ (y 0).val < o + 32) ∨ View.canon L y = (0 : EReal)) :
    View.canon (⟨Rect.unit (s := S5120x384) ![o, 0] S32x384.size inb, z⟩ :: L) y = (0 : EReal) := by
  by_cases hm : y ∈ (Rect.unit (s := S5120x384) ![o, 0] S32x384.size inb).set
  · obtain ⟨x, rfl⟩ := (Rect.unit (s := S5120x384) ![o, 0] S32x384.size inb).exists_idx_of_mem hm
    have h2 := View.canon_cons_emb (Val := Elt Ideal) (e := .bf16) (Rect.unit (s := S5120x384) ![o, 0] S32x384.size inb) z L x
    exact Eq.trans h2 (hz x)
  · rw [View.canon_cons_of_not_mem (Val := Elt Ideal) (e := .bf16) ⟨Rect.unit (s := S5120x384) ![o, 0] S32x384.size inb, z⟩ L hm]
    rcases h with h | h
    · have h1 : (y 1).val < 384 := (y 1).isLt
      refine absurd (Rect.mem_set_unit.mpr fun a => ?_) hm
      match a with
      | ⟨0, _⟩ => exact h
      | ⟨1, _⟩ => exact ⟨Nat.zero_le _, (Nat.zero_add 384).symm ▸ h1⟩
    · exact h

/-- Eight image stores over sixteen stores of zeros fill the array. -/
theorem full_cons {M : Pieces} (hM : Pads M) (f : ℕ → Img) (i0 i1 i2 i3 i4 i5 i6 i7) :
    Full (⟨Rect.unit (s := S5120x384) ![4512, 0] S576x384.size i7, f 7⟩ :: ⟨Rect.unit (s := S5120x384) ![3872, 0] S576x384.size i6, f 6⟩
      :: ⟨Rect.unit (s := S5120x384) ![3232, 0] S576x384.size i5, f 5⟩ :: ⟨Rect.unit (s := S5120x384) ![2592, 0] S576x384.size i4, f 4⟩
      :: ⟨Rect.unit (s := S5120x384) ![1952, 0] S576x384.size i3, f 3⟩ :: ⟨Rect.unit (s := S5120x384) ![1312, 0] S576x384.size i2, f 2⟩
      :: ⟨Rect.unit (s := S5120x384) ![672, 0] S576x384.size i1, f 1⟩ :: ⟨Rect.unit (s := S5120x384) ![32, 0] S576x384.size i0, f 0⟩ :: M) f := by
  constructor
  · exact ((((((((hM.cons 0 i0 _).cons 1 i1 _).cons 2 i2 _).cons 3 i3 _).cons 4 i4 _).cons 5 i5 _).cons 6 i6 _).cons 7 i7 _)
  · intro b hb
    interval_cases b
    · exact (((((((At.new 0 i0 _).old (b' := 1) (by decide) i1 _).old (b' := 2) (by decide) i2 _).old (b' := 3) (by decide) i3 _).old
        (b' := 4) (by decide) i4 _).old (b' := 5) (by decide) i5 _).old (b' := 6) (by decide) i6 _).old (b' := 7) (by decide) i7 _
    · exact ((((((At.new 1 i1 _).old (b' := 2) (by decide) i2 _).old (b' := 3) (by decide) i3 _).old
        (b' := 4) (by decide) i4 _).old (b' := 5) (by decide) i5 _).old (b' := 6) (by decide) i6 _).old (b' := 7) (by decide) i7 _
    · exact (((((At.new 2 i2 _).old (b' := 3) (by decide) i3 _).old
        (b' := 4) (by decide) i4 _).old (b' := 5) (by decide) i5 _).old (b' := 6) (by decide) i6 _).old (b' := 7) (by decide) i7 _
    · exact ((((At.new 3 i3 _).old
        (b' := 4) (by decide) i4 _).old (b' := 5) (by decide) i5 _).old (b' := 6) (by decide) i6 _).old (b' := 7) (by decide) i7 _
    · exact (((At.new 4 i4 _).old (b' := 5) (by decide) i5 _).old (b' := 6) (by decide) i6 _).old (b' := 7) (by decide) i7 _
    · exact ((At.new 5 i5 _).old (b' := 6) (by decide) i6 _).old (b' := 7) (by decide) i7 _
    · exact (At.new 6 i6 _).old (b' := 7) (by decide) i7 _
    · exact At.new 7 i7 _

/-- The sixteen stores of zeros. -/
theorem pads_new (z : Fin 16 → FVec Ideal S32x384 .bf16) (hz : ∀ n x, z n x = (0 : EReal))
    (i0 i1 i2 i3 i4 i5 i6 i7 i8 i9 i10 i11 i12 i13 i14 i15) :
    Pads [⟨Rect.unit (s := S5120x384) ![5088, 0] S32x384.size i15, z 15⟩, ⟨Rect.unit (s := S5120x384) ![4480, 0] S32x384.size i14, z 14⟩,
      ⟨Rect.unit (s := S5120x384) ![4448, 0] S32x384.size i13, z 13⟩, ⟨Rect.unit (s := S5120x384) ![3840, 0] S32x384.size i12, z 12⟩,
      ⟨Rect.unit (s := S5120x384) ![3808, 0] S32x384.size i11, z 11⟩, ⟨Rect.unit (s := S5120x384) ![3200, 0] S32x384.size i10, z 10⟩,
      ⟨Rect.unit (s := S5120x384) ![3168, 0] S32x384.size i9, z 9⟩, ⟨Rect.unit (s := S5120x384) ![2560, 0] S32x384.size i8, z 8⟩,
      ⟨Rect.unit (s := S5120x384) ![2528, 0] S32x384.size i7, z 7⟩, ⟨Rect.unit (s := S5120x384) ![1920, 0] S32x384.size i6, z 6⟩,
      ⟨Rect.unit (s := S5120x384) ![1888, 0] S32x384.size i5, z 5⟩, ⟨Rect.unit (s := S5120x384) ![1280, 0] S32x384.size i4, z 4⟩,
      ⟨Rect.unit (s := S5120x384) ![1248, 0] S32x384.size i3, z 3⟩, ⟨Rect.unit (s := S5120x384) ![640, 0] S32x384.size i2, z 2⟩,
      ⟨Rect.unit (s := S5120x384) ![608, 0] S32x384.size i1, z 1⟩, ⟨Rect.unit (s := S5120x384) ![0, 0] S32x384.size i0, z 0⟩] := by
  intro y hy
  have hlt : (y 0).val < 5120 := (y 0).isLt
  iterate 16
    apply zero_of_cons (hz _) y
    rw [or_iff_not_imp_left]
    intro _
  omega

/-- A load of an image's 640 rows reads the image between zeros. -/
theorem slab_read {sp : Space} {κ : Kind} (v : View sig κ sp S5120x384 .bf16) {b : ℕ} {p : Img} (hP : Pads L) (hA : At L b p)
    (inb : ∀ a, (![640 * b, 0] : Fin 2 → ℕ) a + S640x384.size a ≤ S5120x384.size a) :
    v.readCov L (Rect.unit (s := S5120x384) ![640 * b, 0] S640x384.size inb).toLoadRect = padded p := by
  rw [View.readCov_eq_canon']
  funext j
  have h0 : ((Rect.unit (s := S5120x384) ![640 * b, 0] S640x384.size inb).toLoadRect.idx j 0).val = 640 * b + (j 0).val :=
    Rect.idx_unit_val _ _ inb j 0
  have h1 : ((Rect.unit (s := S5120x384) ![640 * b, 0] S640x384.size inb).toLoadRect.idx j 1).val = (j 1).val :=
    (Rect.idx_unit_val _ _ inb j 1).trans (by simp)
  have hj : (j 0).val < 640 := (j 0).isLt
  unfold padded
  split
  · next h => exact hA _ _ (by rw [h0]; simp; omega) (by rw [h1]; simp)
  · next h => exact hP _ (by rw [h0]; omega)

/-- A load of an image's 576 rows reads the image. -/
theorem img_read {sp : Space} {κ : Kind} (v : View sig κ sp S5120x384 .bf16) {b : ℕ} {p : Img} (hA : At L b p)
    (inb : ∀ a, (![640 * b + 32, 0] : Fin 2 → ℕ) a + S576x384.size a ≤ S5120x384.size a) :
    v.readCov L (Rect.unit (s := S5120x384) ![640 * b + 32, 0] S576x384.size inb).toLoadRect = p := by
  rw [View.readCov_eq_canon']
  funext j
  exact hA _ _ (Rect.idx_unit_val _ _ inb j 0) ((Rect.idx_unit_val _ _ inb j 1).trans (by simp))

/-! ## The same with the stores' contents given by equations -/

/-- Eight image stores over the zeros. -/
theorem full_of {M : Pieces} (hM : Pads M) (f : ℕ → Img) {q0 q1 q2 q3 q4 q5 q6 q7 : Img} {i0 i1 i2 i3 i4 i5 i6 i7}
    (h0 : q0 = f 0) (h1 : q1 = f 1) (h2 : q2 = f 2) (h3 : q3 = f 3) (h4 : q4 = f 4) (h5 : q5 = f 5) (h6 : q6 = f 6) (h7 : q7 = f 7) :
    Full (⟨Rect.unit (s := S5120x384) ![4512, 0] S576x384.size i7, q7⟩ :: ⟨Rect.unit (s := S5120x384) ![3872, 0] S576x384.size i6, q6⟩
      :: ⟨Rect.unit (s := S5120x384) ![3232, 0] S576x384.size i5, q5⟩ :: ⟨Rect.unit (s := S5120x384) ![2592, 0] S576x384.size i4, q4⟩
      :: ⟨Rect.unit (s := S5120x384) ![1952, 0] S576x384.size i3, q3⟩ :: ⟨Rect.unit (s := S5120x384) ![1312, 0] S576x384.size i2, q2⟩
      :: ⟨Rect.unit (s := S5120x384) ![672, 0] S576x384.size i1, q1⟩ :: ⟨Rect.unit (s := S5120x384) ![32, 0] S576x384.size i0, q0⟩ :: M) f := by
  subst h0 h1 h2 h3 h4 h5 h6 h7
  exact full_cons hM f i0 i1 i2 i3 i4 i5 i6 i7

/-- The sixteen stores of zeros. -/
theorem pads_of {z0 z1 z2 z3 z4 z5 z6 z7 z8 z9 z10 z11 z12 z13 z14 z15 : FVec Ideal S32x384 .bf16}
    {i0 i1 i2 i3 i4 i5 i6 i7 i8 i9 i10 i11 i12 i13 i14 i15}
    (hz : ∀ n x, ![z0, z1, z2, z3, z4, z5, z6, z7, z8, z9, z10, z11, z12, z13, z14, z15] n x = (0 : EReal)) :
    Pads [⟨Rect.unit (s := S5120x384) ![5088, 0] S32x384.size i15, z15⟩, ⟨Rect.unit (s := S5120x384) ![4480, 0] S32x384.size i14, z14⟩,
      ⟨Rect.unit (s := S5120x384) ![4448, 0] S32x384.size i13, z13⟩, ⟨Rect.unit (s := S5120x384) ![3840, 0] S32x384.size i12, z12⟩,
      ⟨Rect.unit (s := S5120x384) ![3808, 0] S32x384.size i11, z11⟩, ⟨Rect.unit (s := S5120x384) ![3200, 0] S32x384.size i10, z10⟩,
      ⟨Rect.unit (s := S5120x384) ![3168, 0] S32x384.size i9, z9⟩, ⟨Rect.unit (s := S5120x384) ![2560, 0] S32x384.size i8, z8⟩,
      ⟨Rect.unit (s := S5120x384) ![2528, 0] S32x384.size i7, z7⟩, ⟨Rect.unit (s := S5120x384) ![1920, 0] S32x384.size i6, z6⟩,
      ⟨Rect.unit (s := S5120x384) ![1888, 0] S32x384.size i5, z5⟩, ⟨Rect.unit (s := S5120x384) ![1280, 0] S32x384.size i4, z4⟩,
      ⟨Rect.unit (s := S5120x384) ![1248, 0] S32x384.size i3, z3⟩, ⟨Rect.unit (s := S5120x384) ![640, 0] S32x384.size i2, z2⟩,
      ⟨Rect.unit (s := S5120x384) ![608, 0] S32x384.size i1, z1⟩, ⟨Rect.unit (s := S5120x384) ![0, 0] S32x384.size i0, z0⟩] :=
  pads_new _ hz i0 i1 i2 i3 i4 i5 i6 i7 i8 i9 i10 i11 i12 i13 i14 i15

/-! ## An array held whole -/

/-- The rows around the array's images hold zeros, and the images' rows hold `p`. -/
def Whole (a : Vec Ideal S5120x384 .bf16) (p : ℕ → Img) : Prop :=
  (∀ y : S5120x384.Idx, ((y 0).val % 640 < 32 ∨ 608 ≤ (y 0).val % 640) → a y = (0 : EReal)) ∧
  ∀ b, b < 8 → ∀ (y : S5120x384.Idx) (x : S576x384.Idx), (y 0).val = 640 * b + 32 + (x 0).val → (y 1).val = (x 1).val → a y = p b x

theorem Full.whole {p : ℕ → Img} (h : Full L p) : Whole (View.canon L) p := h

section
variable {m : Memref sig .tc .vmem S5120x384 .bf16} (h : m.IsWhole) {a : Vec Ideal S5120x384 .bf16} {p : ℕ → Img} (ha : Whole a p)
include ha

/-- A load of an image's 640 rows, -/
theorem slab_load (b : ℕ) (hb : b < 8) (inb : ∀ a, (![640 * b, 0] : Fin 2 → ℕ) a + S640x384.size a ≤ S5120x384.size a) :
    View.readAt (Elt Ideal) m.view (Rect.unit (s := S5120x384) ![640 * b, 0] S640x384.size inb).toLoadRect (h.unread a) = padded (p b) := by
  funext j
  rw [h.readAt_unread]
  have h0 : ((Rect.unit (s := S5120x384) ![640 * b, 0] S640x384.size inb).toLoadRect.idx j 0).val = 640 * b + (j 0).val :=
    Rect.idx_unit_val _ _ inb j 0
  have h1 : ((Rect.unit (s := S5120x384) ![640 * b, 0] S640x384.size inb).toLoadRect.idx j 1).val = (j 1).val :=
    (Rect.idx_unit_val _ _ inb j 1).trans (by simp)
  have hj : (j 0).val < 640 := (j 0).isLt
  unfold padded
  split
  · next g => exact ha.2 b hb _ _ (by rw [h0]; simp; omega) (by rw [h1]; simp)
  · next g => exact ha.1 _ (by rw [h0]; omega)

/-- and of its 576. -/
theorem img_load (b : ℕ) (hb : b < 8) (inb : ∀ a, (![640 * b + 32, 0] : Fin 2 → ℕ) a + S576x384.size a ≤ S5120x384.size a) :
    View.readAt (Elt Ideal) m.view (Rect.unit (s := S5120x384) ![640 * b + 32, 0] S576x384.size inb).toLoadRect (h.unread a) = p b := by
  funext j
  rw [h.readAt_unread]
  exact ha.2 b hb _ _ (Rect.idx_unit_val _ _ inb j 0) ((Rect.idx_unit_val _ _ inb j 1).trans (by simp))

end

/-- A load of all of an array. -/
theorem whole_load {s : Shape} {e : EltTy} (m : Memref sig .tc .vmem s e) (h : m.IsWhole) (x : Vec Ideal s e) {off : Fin s.rank → ℕ}
    (inb : ∀ a, off a + s.size a ≤ s.size a) (h0 : ∀ a, off a = 0) :
    View.readAt (Elt Ideal) m.view (Rect.unit (s := s) off s.size inb).toLoadRect (h.unread x) = x := by
  rw [View.readAt_eq_ld, h.read_unread]
  exact View.ld_unit_lit inb x h0

end Cert.Store

end
-- ==== Proof.Spec.lean ====
/- The mathematics of a residual block, on one image of 24 x 24 pixels (row `24 y + x` is pixel `(y, x)`) with 384
   channels, over the extended reals. -/
module

public import Idealize.ShloMosaic.Lib.Pointwise

@[expose] public section

noncomputable section

namespace Cert.Spec

/-- One image. -/
abbrev Im : Type := Fin 576 → Fin 384 → EReal

/-- The weights of the nine taps: tap, input channel, output channel. -/
abbrev Wt : Type := Fin 9 → Fin 384 → Fin 384 → EReal

/-- Pixel `(y, x)` of the image framed by one row and column of zeros on every side. -/
def px (f : Im) (y x : ℕ) (i : Fin 384) : EReal :=
  if h : 1 ≤ y ∧ y ≤ 24 ∧ 1 ≤ x ∧ x ≤ 24 then f ⟨24 * (y - 1) + (x - 1), by omega⟩ i else 0

/-- The 3x3 convolution. -/
def conv (f : Im) (w : Wt) (β : Fin 384 → EReal) : Im := fun r o =>
  (∑ t : Fin 9, ∑ i : Fin 384, px f (r.val / 24 + t.val / 3) (r.val % 24 + t.val % 3) i * w t i o) + β o

/-- The rectified convolution. -/
def crelu (f : Im) (w : Wt) (β : Fin 384 → EReal) : Im := fun r o => max (conv f w β r o) 0

/-- The rectified convolution of `f` with `g` added. -/
def cres (f g : Im) (w : Wt) (β : Fin 384 → EReal) : Im := fun r o => max (conv f w β r o + g r o) 0

/-- The residual block. -/
def layer (f : Im) (w : Fin 2 → Wt) (β : Fin 2 → Fin 384 → EReal) : Im := cres (crelu f (w 0) (β 0)) f (w 1) (β 1)

end Cert.Spec

end
-- ==== Proof.Conv.lean ====
/- One image's 3x3 convolution as the kernel computes it: nine shifted copies of the padded rows side by side, times the
   weights of all taps. The copies to the left and right are masked where a shift would cross a row's end. -/
module

public import proofs.«01_k».proof.Proof.Store
public import proofs.«01_k».proof.Proof.Spec
public import proofs.«01_k».proof.Proof.Gen.KernelIdeal.Skeleton

@[expose] public section

set_option maxRecDepth 16384

noncomputable section

namespace Cert.Conv

open Idealize.ShloMosaic Cert.KernelIdeal Cert.KernelIdeal.Gen Cert.Store Cert.Spec

/-- The rows shifted down by one, masked. -/
def am (mm : FVec Ideal S640x1 .bf16) (s : FVec Ideal S640x384 .bf16) : FVec Ideal S640x384 .bf16 :=
  mulf (concatenate S640x384 0 [⟨S1x384, extractStridedSlice S1x384 ![639, 0] s slices_S640x384_o639_0_S1x384⟩,
    ⟨S639x384, extractStridedSlice S639x384 ![0, 0] s slices_S640x384_o0_0_S639x384⟩] concatenates_S1x384_S639x384_S640x384_d0)
    (broadcastTo S640x384 mm broadcasts_S640x1_S640x384)

/-- The rows shifted up by one, masked. -/
def ap (mp : FVec Ideal S640x1 .bf16) (s : FVec Ideal S640x384 .bf16) : FVec Ideal S640x384 .bf16 :=
  mulf (concatenate S640x384 0 [⟨S639x384, extractStridedSlice S639x384 ![1, 0] s slices_S640x384_o1_0_S639x384⟩,
    ⟨S1x384, extractStridedSlice S1x384 ![0, 0] s slices_S640x384_o0_0_S1x384⟩] concatenates_S639x384_S1x384_S640x384_d0)
    (broadcastTo S640x384 mp broadcasts_S640x1_S640x384)

/-- The nine copies. -/
def taps (mm mp : FVec Ideal S640x1 .bf16) (s : FVec Ideal S640x384 .bf16) : Fin 9 → FVec Ideal S576x384 .bf16 :=
  ![extractStridedSlice S576x384 ![8, 0] (am mm s) slices_S640x384_o8_0_S576x384,
    extractStridedSlice S576x384 ![8, 0] s slices_S640x384_o8_0_S576x384,
    extractStridedSlice S576x384 ![8, 0] (ap mp s) slices_S640x384_o8_0_S576x384,
    extractStridedSlice S576x384 ![32, 0] (am mm s) slices_S640x384_o32_0_S576x384,
    extractStridedSlice S576x384 ![32, 0] s slices_S640x384_o32_0_S576x384,
    extractStridedSlice S576x384 ![32, 0] (ap mp s) slices_S640x384_o32_0_S576x384,
    extractStridedSlice S576x384 ![56, 0] (am mm s) slices_S640x384_o56_0_S576x384,
    extractStridedSlice S576x384 ![56, 0] s slices_S640x384_o56_0_S576x384,
    extractStridedSlice S576x384 ![56, 0] (ap mp s) slices_S640x384_o56_0_S576x384]

/-- The copies side by side. -/
def lhs (mm mp : FVec Ideal S640x1 .bf16) (s : FVec Ideal S640x384 .bf16) : FVec Ideal S576x3456 .bf16 :=
  concatenate S576x3456 1 [⟨S576x384, taps mm mp s 0⟩, ⟨S576x384, taps mm mp s 1⟩, ⟨S576x384, taps mm mp s 2⟩,
    ⟨S576x384, taps mm mp s 3⟩, ⟨S576x384, taps mm mp s 4⟩, ⟨S576x384, taps mm mp s 5⟩, ⟨S576x384, taps mm mp s 6⟩,
    ⟨S576x384, taps mm mp s 7⟩, ⟨S576x384, taps mm mp s 8⟩]
    concatenates_S576x384_S576x384_S576x384_S576x384_S576x384_S576x384_S576x384_S576x384_S576x384_S576x3456_d1

/-- The product with the weights, and the bias. -/
def acc (mm mp : FVec Ideal S640x1 .bf16) (s : FVec Ideal S640x384 .bf16) (w : Vec Ideal S1x3456x384 .bf16)
    (b : FVec Ideal S1x384 .f32) : FVec Ideal S576x384 .f32 :=
  addf (matmul dot_S576x3456_S3456x384_S576x384_1_0_0_1_n_n none (lhs mm mp s)
    (shapeCast S3456x384 w shapeCasts_S1x3456x384_S3456x384 : FVec Ideal S3456x384 .bf16) (constant S576x384 .f32 0x00000000#32))
    (broadcastTo S576x384 b broadcasts_S1x384_S576x384)

/-- The rectifier. -/
def rect (x : FVec Ideal S576x384 .f32) : FVec Ideal S576x384 .f32 :=
  maximumf x (broadcast S576x384 (Scalar.ofBits .f32 0x00000000#32))

/-- Casting to the same shape changes nothing. -/
theorem shapeCast_same {s : Shape} {α : Type} (x : s.Idx → α) (h : s.ShapeCasts s) : shapeCast s x h = x := by
  funext j
  simp [shapeCast]

/-- Whether the row's number leaves the remainder `k` by 24, in the kernel's words. -/
def edge (k : BitVec 32) (q : Fin 640) : BitVec 1 :=
  have n : BitVec 32 := Scalar.select (Scalar.cmpi .eq 24#32 0#32) 1#32 24#32
  have m : BitVec 32 := IntOp.remsi .vector (BitVec.ofNat 32 q.val) n
  IntOp.cmpi .eq (Scalar.select (IntOp.andi (IntOp.xori (IntOp.cmpi .slt m 0#32) (Scalar.cmpi .slt n 0#32))
    (IntOp.cmpi .ne m 0#32)) (IntOp.addi m n) m) k

theorem edge_left : ∀ q, edge 8#32 q = if q.val % 24 = 8 then 1#1 else 0#1 := by decide +kernel
theorem edge_right : ∀ q, edge 7#32 q = if q.val % 24 = 7 then 1#1 else 0#1 := by decide +kernel

/-- The left mask: zero where a row of pixels begins. -/
theorem mm_apply (q : Fin 640) : (k0_pay1 (F := Ideal)) (ix2 q 0) = if q.val % 24 = 8 then (0 : EReal) else 1 := by
  pointwise [k0_pay1]
  refine Eq.trans (congrArg (fun z => Scalar.select z (0 : EReal) 1) (edge_left q)) ?_
  split <;> rfl

/-- The right mask: zero where a row of pixels ends. -/
theorem mp_apply (q : Fin 640) : (k0_pay4 k0_pay2 (FloatOps.ofBits FTy.f32 1065353216#32) k0_pay3 : FVec Ideal S640x1 .bf16) (ix2 q 0)
    = if q.val % 24 = 7 then (0 : EReal) else 1 := by
  pointwise [k0_pay4, k0_pay3, k0_pay2]
  refine Eq.trans (congrArg (fun z => Scalar.select z (0 : EReal) 1) (edge_right q)) ?_
  split <;> rfl

theorem lhs_apply (mm mp : FVec Ideal S640x1 .bf16) (s : FVec Ideal S640x384 .bf16) (r : Fin 576) (t : Fin 9) (i : Fin 384) :
    lhs mm mp s (ix2 r (finProdFinEquiv (t, i))) = taps mm mp s t (ix2 r i) := by
  refine concatenate_ofFn_apply (t := S576x3456) (s₁ := S576x384) 1 (taps mm mp s) _ rfl 384 rfl _ t ?_ (ix2 r i) ?_ ?_
  · show (finProdFinEquiv (t, i)).val / 384 = t.val
    simp [finProdFinEquiv]; omega
  · show i.val = (finProdFinEquiv (t, i)).val % 384
    simp [finProdFinEquiv]; omega
  · intro b hb
    fin_cases b
    · rfl
    · exact absurd rfl hb

theorem am_apply (mm : FVec Ideal S640x1 .bf16) (s : FVec Ideal S640x384 .bf16) (q : Fin 640) (hq : 1 ≤ q.val) (i : Fin 384) :
    am mm s (ix2 q i) = s (ix2 ⟨q.val - 1, by omega⟩ i) * mm (ix2 q 0) := by
  pointwise [am]
  rw [dif_neg (by omega)]

theorem ap_apply (mp : FVec Ideal S640x1 .bf16) (s : FVec Ideal S640x384 .bf16) (q : Fin 640) (hq : q.val + 1 < 640) (i : Fin 384) :
    ap mp s (ix2 q i) = s (ix2 ⟨q.val + 1, hq⟩ i) * mp (ix2 q 0) := by
  pointwise [ap]
  rw [dif_pos (by omega)]
  simp only [Nat.add_comm 1]

theorem acc_apply (mm mp : FVec Ideal S640x1 .bf16) (s : FVec Ideal S640x384 .bf16) (w : Vec Ideal S1x3456x384 .bf16)
    (b : FVec Ideal S1x384 .f32) (r : Fin 576) (o : Fin 384) :
    acc mm mp s w b (ix2 r o) = (∑ k : Fin 3456, lhs mm mp s (ix2 r k) * w (ix3 0 k o)) + b (ix2 0 o) := by
  pointwise [acc]

/-- The slab as loaded. -/
abbrev ld (s : Vec Ideal S640x384 .bf16) : FVec Ideal S640x384 .bf16 := shapeCast S640x384 s shapeCasts_S640x384_S640x384

/-- An image as loaded, widened. -/
abbrev wide (q : Vec Ideal S576x384 .bf16) : FVec Ideal S576x384 .f32 := extf .f32 (q : FVec Ideal S576x384 .bf16) bitsLt_bf16_f32

/-- An image narrowed, as stored. -/
abbrev narrow (x : FVec Ideal S576x384 .f32) : FVec Ideal S576x384 .bf16 := truncf .bf16 x bitsLt_bf16_f32

/-- A cast of an image to its own shape. -/
abbrev same (x : FVec Ideal S576x384 .bf16) : FVec Ideal S576x384 .bf16 := shapeCast S576x384 x shapeCasts_S576x384_S576x384

/-- The image laid out as 24 rows of 24 pixels. -/
abbrev grid (x : FVec Ideal S576x384 .f32) : FVec Ideal S1x24x24x384 .f32 :=
  shapeCast S1x24x24x384 (shapeCast S24x24x384 x shapeCasts_S576x384_S24x24x384) shapeCasts_S24x24x384_S1x24x24x384

/-- The pixels of a stored image. -/
def pix (p : Img) : Im := fun r i => p (ix2 r i)

/-- The weights as the kernel lays them out, tap by tap. -/
def wk (w : Vec Ideal S1x3456x384 .bf16) : Wt := fun t i o => w (ix3 0 (finProdFinEquiv (t, i)) o)

/-- The bias. -/
def bk (b : FVec Ideal S1x384 .f32) (o : Fin 384) : EReal := b (ix2 0 o)

/-- A padded image's row is a row of framed pixels. -/
theorem padded_px (p : Img) (q : Fin 640) (i : Fin 384) (y x : ℕ) (hx : 1 ≤ x) (hx' : x ≤ 24) (e : q.val = 7 + 24 * y + x) :
    padded p (ix2 q i) = px (pix p) y x i := by
  unfold padded px
  by_cases h : 32 ≤ q.val ∧ q.val < 608
  · rw [dif_pos (show 32 ≤ ((ix2 q i : S640x384.Idx) 0).val ∧ ((ix2 q i : S640x384.Idx) 0).val < 608 from h), dif_pos (by omega)]
    exact congrArg (fun z => p (ix2 z i)) (Fin.ext (by show q.val - 32 = 24 * (y - 1) + (x - 1); omega))
  · rw [dif_neg (show ¬ (32 ≤ ((ix2 q i : S640x384.Idx) 0).val ∧ ((ix2 q i : S640x384.Idx) 0).val < 608) from h), dif_neg (by omega)]

/-- The masks. -/
abbrev mL : FVec Ideal S640x1 .bf16 := k0_pay1 (F := Ideal)
abbrev mR : FVec Ideal S640x1 .bf16 := k0_pay4 k0_pay2 (FloatOps.ofBits FTy.f32 1065353216#32) k0_pay3

theorem mid_px (p : Img) (a : ℕ) (r : Fin 576) (i : Fin 384) (q : Fin 640) (e : q.val = 8 + 24 * a + r.val) :
    padded p (ix2 q i) = px (pix p) (r.val / 24 + a) (r.val % 24 + 1) i :=
  padded_px p q i _ _ (by omega) (by omega) (by omega)

theorem left_px (p : Img) (a : ℕ) (r : Fin 576) (i : Fin 384) (q : Fin 640) (e : q.val = 8 + 24 * a + r.val) :
    am mL (padded p) (ix2 q i) = px (pix p) (r.val / 24 + a) (r.val % 24 + 0) i := by
  rw [am_apply _ _ _ (by omega), show mL (ix2 q 0) = _ from mm_apply q]
  by_cases h : r.val % 24 = 0
  · rw [if_pos (by omega), mul_zero, px, dif_neg (by omega)]
  · rw [if_neg (by omega), mul_one]
    exact padded_px p _ i _ _ (by omega) (by omega) (by show q.val - 1 = _; omega)

theorem right_px (p : Img) (a : ℕ) (ha : a < 3) (r : Fin 576) (i : Fin 384) (q : Fin 640) (e : q.val = 8 + 24 * a + r.val) :
    ap mR (padded p) (ix2 q i) = px (pix p) (r.val / 24 + a) (r.val % 24 + 2) i := by
  rw [ap_apply _ _ _ (by omega), show mR (ix2 q 0) = _ from mp_apply q]
  by_cases h : r.val % 24 = 23
  · rw [if_pos (by omega), mul_zero, px, dif_neg (by omega)]
  · rw [if_neg (by omega), mul_one]
    exact padded_px p _ i _ _ (by omega) (by omega) (by show q.val + 1 = _; omega)

theorem taps_apply (p : Img) (t : Fin 9) (r : Fin 576) (i : Fin 384) :
    taps mL mR (padded p) t (ix2 r i) = px (pix p) (r.val / 24 + t.val / 3) (r.val % 24 + t.val % 3) i := by
  fin_cases t
  · exact Eq.trans (by pointwise [taps]) (left_px p 0 r i ⟨8 + r.val, by omega⟩ (by simp))
  · exact Eq.trans (by pointwise [taps]) (mid_px p 0 r i ⟨8 + r.val, by omega⟩ (by simp))
  · exact Eq.trans (by pointwise [taps]) (right_px p 0 (by omega) r i ⟨8 + r.val, by omega⟩ (by simp))
  · exact Eq.trans (by pointwise [taps]) (left_px p 1 r i ⟨32 + r.val, by omega⟩ (by simp))
  · exact Eq.trans (by pointwise [taps]) (mid_px p 1 r i ⟨32 + r.val, by omega⟩ (by simp))
  · exact Eq.trans (by pointwise [taps]) (right_px p 1 (by omega) r i ⟨32 + r.val, by omega⟩ (by simp))
  · exact Eq.trans (by pointwise [taps]) (left_px p 2 r i ⟨56 + r.val, by omega⟩ (by simp))
  · exact Eq.trans (by pointwise [taps]) (mid_px p 2 r i ⟨56 + r.val, by omega⟩ (by simp))
  · exact Eq.trans (by pointwise [taps]) (right_px p 2 (by omega) r i ⟨56 + r.val, by omega⟩ (by simp))

/-- The product over all taps is the convolution. -/
theorem acc_conv (p : Img) (w : Vec Ideal S1x3456x384 .bf16) (b : FVec Ideal S1x384 .f32) (r : Fin 576) (o : Fin 384) :
    acc mL mR (padded p) w b (ix2 r o) = conv (pix p) (wk w) (bk b) r o := by
  rw [acc_apply]
  unfold conv
  refine congrArg (· + _) ?_
  rw [← (finProdFinEquiv (m := 9) (n := 384)).sum_comp, Fintype.sum_prod_type]
  refine Finset.sum_congr rfl fun t _ => Finset.sum_congr rfl fun i _ => ?_
  rw [lhs_apply, taps_apply]
  rfl

/-- A slab's rectified convolution. -/
def plain (s : FVec Ideal S640x384 .bf16) (w : Vec Ideal S1x3456x384 .bf16) (b : FVec Ideal S1x384 .f32) : FVec Ideal S576x384 .f32 :=
  rect (acc mL mR s w b)

/-- A slab's rectified convolution with an image added. -/
def skip (s : FVec Ideal S640x384 .bf16) (q : Vec Ideal S576x384 .bf16) (w : Vec Ideal S1x3456x384 .bf16) (b : FVec Ideal S1x384 .f32) :
    FVec Ideal S576x384 .f32 := rect (addf (acc mL mR s w b) (wide q))

/-- The pixels of the rectified convolution. -/
theorem plain_pix (p : Img) (w : Vec Ideal S1x3456x384 .bf16) (b : FVec Ideal S1x384 .f32) (r : Fin 576) (o : Fin 384) :
    plain (padded p) w b (ix2 r o) = crelu (pix p) (wk w) (bk b) r o := by
  pointwise [plain, rect]
  rw [acc_conv]
  rfl

theorem skip_pix (p q : Img) (w : Vec Ideal S1x3456x384 .bf16) (b : FVec Ideal S1x384 .f32) (r : Fin 576) (o : Fin 384) :
    skip (padded p) q w b (ix2 r o) = cres (pix p) (pix q) (wk w) (bk b) r o := by
  pointwise [skip, rect]
  rw [acc_conv]
  rfl

/-- The image with given pixels. -/
def img (f : Im) : Img := fun j => f (j 0) (j 1)

theorem img_pix (f : Im) : pix (img f) = f := rfl

/-- What the stores of one convolution hold, in the images' own words. -/
theorem narrow_plain (f : Im) (w : Vec Ideal S1x3456x384 .bf16) (b : FVec Ideal S1x384 .f32) :
    narrow (plain (padded (img f)) w b) = img (crelu f (wk w) (bk b)) := by
  funext j
  obtain ⟨r, o, rfl⟩ : ∃ r o, j = ix2 r o := ⟨j 0, j 1, eq_ix2 j⟩
  exact plain_pix (img f) w b r o

theorem narrow_skip (f g : Im) (w : Vec Ideal S1x3456x384 .bf16) (b : FVec Ideal S1x384 .f32) :
    narrow (skip (padded (img f)) (img g) w b) = img (cres f g (wk w) (bk b)) := by
  funext j
  obtain ⟨r, o, rfl⟩ : ∃ r o, j = ix2 r o := ⟨j 0, j 1, eq_ix2 j⟩
  exact skip_pix (img f) (img g) w b r o

theorem grid_skip (f g : Im) (w : Vec Ideal S1x3456x384 .bf16) (b : FVec Ideal S1x384 .f32) (y x : Fin 24) (o : Fin 384) :
    grid (skip (padded (img f)) (img g) w b) (ix4 0 y x o) = cres f g (wk w) (bk b) ⟨24 * y.val + x.val, by omega⟩ o := by
  refine Eq.trans ?_ (skip_pix (img f) (img g) w b ⟨24 * y.val + x.val, by omega⟩ o)
  pointwise
  simp only [Nat.mul_comm 24]

end Cert.Conv

end
-- ==== Proof.Chunks.lean ====
/- What each store of the two kernels holds, image by image: the kernel's words for it are the rectified convolution of
   a slab, or that with an image added. -/
module

public import proofs.«01_k».proof.Proof.Conv

@[expose] public section

set_option maxRecDepth 16384

noncomputable section

namespace Cert.Chunks

open Idealize.ShloMosaic Cert.KernelIdeal Cert.KernelIdeal.Gen Cert.Store Cert.Spec Cert.Conv

variable (s : Vec Ideal S640x384 .bf16) (q : Vec Ideal S576x384 .bf16) (w : Vec Ideal S1x3456x384 .bf16) (b : FVec Ideal S1x384 .f32)
  (b' : Vec Ideal S1x384 .f32)

/-! ## The first kernel's first convolution, -/

theorem a0 : k0_pay38 mR b (k0_pay35 s) (k0_pay36 mL s) (k0_pay37 s) w = same (narrow (plain (ld s) w b)) := rfl
theorem a1 : k0_pay41 b (k0_pay39 mL mR s) (k0_pay40 w) = same (narrow (plain (ld s) w b)) := rfl
theorem a2 : k0_pay42 mL mR b s w = same (narrow (plain (ld s) w b)) := rfl
theorem a3 : k0_pay43 mL mR b s w = same (narrow (plain (ld s) w b)) := rfl
theorem a4 : k0_pay53 b (k0_pay44 s) (k0_pay45 mL s) (k0_pay46 mR s) (k0_pay47 mL s) (k0_pay48 s) (k0_pay49 mR s) (k0_pay50 mL s)
    (k0_pay51 s) (k0_pay52 mR s) w = same (narrow (plain (ld s) w b)) := rfl
theorem a5 : k0_pay55 (k0_pay54 mL mR b s w) = same (narrow (plain (ld s) w b)) := rfl
theorem a6 : k0_pay56 mL mR b s w = same (narrow (plain (ld s) w b)) := rfl
theorem a7 : k0_pay61 mR b (k0_pay57 s) (k0_pay58 mL s) (k0_pay59 s) (k0_pay60 s) w = same (narrow (plain (ld s) w b)) := rfl

/-! its second, -/

theorem b0 : k0_pay64 b (k0_pay63 mL mR s) w q = narrow (skip s (same q) w b) := rfl
theorem b1 : k0_pay67 (k0_pay65 mL mR b s w) (k0_pay66 q) = narrow (skip s (same q) w b) := rfl
theorem b2 : k0_pay68 mL mR b s w q = narrow (skip s (same q) w b) := rfl
theorem b3 : k0_pay71 mL mR b s (k0_pay69 s) (k0_pay70 s) w q = narrow (skip s (same q) w b) := rfl
theorem b4 : k0_pay80 b s (k0_pay72 mL s) (k0_pay73 mR s) (k0_pay74 mL s) (k0_pay75 s) (k0_pay76 mR s) (k0_pay77 mL s) (k0_pay78 s)
    (k0_pay79 mR s) w q = narrow (skip s (same q) w b) := rfl
theorem b5 : k0_pay82 (k0_pay81 mL mR b s w) q = narrow (skip s (same q) w b) := rfl
theorem b6 : k0_pay83 mL mR b s w q = narrow (skip s (same q) w b) := rfl
theorem b7 : k0_pay84 mL mR b s w q = narrow (skip s (same q) w b) := rfl

/-! the second kernel's four. -/

theorem c0 : k1_pay42 (k1_pay41 mL mR b' s w) = same (narrow (plain (ld s) w (k1_pay40 b'))) := rfl
theorem c1 : k1_pay43 mL mR b s w = same (narrow (plain (ld s) w b)) := rfl
theorem c2 : k1_pay47 mR b (k1_pay44 s) (k1_pay45 mL s) (k1_pay46 s) w = same (narrow (plain (ld s) w b)) := rfl
theorem c3 : k1_pay49 b (k1_pay48 mL mR s) w = same (narrow (plain (ld s) w b)) := rfl
theorem c4 : k1_pay50 mL mR b s w = same (narrow (plain (ld s) w b)) := rfl
theorem c5 : k1_pay51 mL mR b s w = same (narrow (plain (ld s) w b)) := rfl
theorem c6 : k1_pay59 b (k1_pay52 s) (k1_pay53 mL s) (k1_pay54 mR s) (k1_pay55 mL s) (k1_pay56 s) (k1_pay57 mR s) (k1_pay58 mL s) w
    = same (narrow (plain (ld s) w b)) := rfl
theorem c7 : k1_pay62 (k1_pay60 mL mR b s w) k1_pay61 = same (narrow (plain (ld s) w b)) := rfl

theorem d0 : k1_pay64 mL mR b' s w q = same (narrow (skip s (same q) w (k1_pay63 b'))) := rfl
theorem d1 : k1_pay65 mL mR b s w q = same (narrow (skip s (same q) w b)) := rfl
theorem d2 : k1_pay68 mR b s (k1_pay66 mL s) (k1_pay67 s) w q = same (narrow (skip s (same q) w b)) := rfl
theorem d3 : k1_pay70 b (k1_pay69 mL mR s) w q = same (narrow (skip s (same q) w b)) := rfl
theorem d4 : k1_pay72 (k1_pay71 mL mR b s w) q = same (narrow (skip s (same q) w b)) := rfl
theorem d5 : k1_pay73 mL mR b s w q = same (narrow (skip s (same q) w b)) := rfl
theorem d6 : k1_pay74 mL mR b s w q = same (narrow (skip s (same q) w b)) := rfl
theorem d7 : k1_pay77 mR b s (k1_pay75 mL s) (k1_pay76 s) w q = same (narrow (skip s (same q) w b)) := rfl

theorem e0 : k1_pay86 b s (k1_pay79 mL s) (k1_pay80 mR s) (k1_pay81 mL s) (k1_pay82 s) (k1_pay83 mR s) (k1_pay84 mL s) (k1_pay85 s) w
    = same (narrow (plain s w b)) := rfl
theorem e1 : k1_pay88 (k1_pay87 mL mR b s w) = same (narrow (plain s w b)) := rfl
theorem e2 : k1_pay89 mL mR b s w = same (narrow (plain s w b)) := rfl
theorem e3 : k1_pay93 b s (k1_pay90 mL s) (k1_pay91 s) (k1_pay92 mR) w = same (narrow (plain s w b)) := rfl
theorem e4 : k1_pay95 b (k1_pay94 mL mR s w) = same (narrow (plain s w b)) := rfl
theorem e5 : k1_pay96 mL mR b s w = same (narrow (plain s w b)) := rfl
theorem e6 : k1_pay98 mL mR b s (k1_pay97 s) w = same (narrow (plain s w b)) := rfl
theorem e7 : k1_pay100 b (k1_pay99 mL mR s) w = same (narrow (plain s w b)) := rfl

theorem f0 : k1_pay103 (k1_pay102 mL mR b' s w q) = grid (skip s q w (k1_pay101 b')) := rfl
theorem f1 : k1_pay104 mL mR b s w q = grid (skip s q w b) := rfl
theorem f2 : k1_pay105 mL mR b s w q = grid (skip s q w b) := rfl
theorem f3 : k1_pay109 mR b s (k1_pay106 mL s) (k1_pay107 s) (k1_pay108 s) w q = grid (skip s q w b) := rfl
theorem f4 : k1_pay120 b (k1_pay111 mR s) (k1_pay112 mL s) (k1_pay113 s) (k1_pay114 mR s) (k1_pay115 mL s) (k1_pay116 s) (k1_pay117 mR s)
    (k1_pay118 mL s) (k1_pay119 s) w q = grid (skip s q w b) := rfl
theorem f5 : k1_pay122 (k1_pay121 mL mR b s w) q = grid (skip s q w b) := rfl
theorem f6 : k1_pay124 (k1_pay123 mL mR b s w q) = grid (skip s q w b) := rfl
theorem f7 : k1_pay1 b (k1_pay125 mL mR s) w q = grid (skip s q w b) := rfl

/-! ## The same in the images' words -/

variable {s q w b} {f g : Im}

theorem plain_cast (hs : s = padded (img f)) : same (narrow (plain (ld s) w b)) = img (crelu f (wk w) (bk b)) := by
  rw [same, shapeCast_same, ld, shapeCast_same, hs, narrow_plain]

theorem plain_bare (hs : s = padded (img f)) : same (narrow (plain s w b)) = img (crelu f (wk w) (bk b)) := by
  rw [same, shapeCast_same, hs, narrow_plain]

theorem skip_bare (hs : s = padded (img f)) (hq : q = img g) : narrow (skip s (same q) w b) = img (cres f g (wk w) (bk b)) := by
  rw [same, shapeCast_same, hs, hq, narrow_skip]

theorem skip_cast (hs : s = padded (img f)) (hq : q = img g) : same (narrow (skip s (same q) w b)) = img (cres f g (wk w) (bk b)) := by
  rw [same, shapeCast_same, skip_bare hs hq]

/-- The biases as loaded. -/
theorem bias_eq (o : Fin 384) : k0_pay34 b' (ix2 0 o) = b' (ix2 0 o) := by
  pointwise [k0_pay34]

end Cert.Chunks

end
-- ==== Proof.Prior.lean ====
/- The mathematics before the residual blocks, on one image: its scores, the best of them, and the features it starts
   from; and that the soft weights which the reference subtracts and adds back leave a finite number as it was. -/
module

public import Idealize.ShloMosaic.Lib.Pointwise
public import Idealize.ShloMosaic.Lib.IdealHost
public import proofs.«01_k».proof.Proof.Spec

@[expose] public section

noncomputable section

namespace Cert.Prior

open Idealize.ShloMosaic Cert.Spec

/-- The channels' means. -/
def pool (f : Im) (i : Fin 384) : EReal := Ideal.div (∑ r : Fin 576, f r i) (Ideal.ofBits .f32 0x44100000#32)

/-- The gates. -/
def gate (f : Im) (wm : Fin 384 → Fin 384 → EReal) (o : Fin 384) : EReal := Ideal.logistic (∑ i, pool f i * wm i o)

/-- The scores. -/
def score (f : Im) (wm : Fin 384 → Fin 384 → EReal) (wp : Fin 384 → Fin 20 → EReal) (pb g : Fin 20 → EReal) (k : Fin 20) : EReal :=
  ∑ o, gate f wm o * wp o k + pb k + g k

/-- `k` is the first index of the greatest score. -/
def First (y : Fin 20 → EReal) (k : Fin 20) : Prop := (∀ j, y j ≤ y k) ∧ ∀ j, j < k → y j < y k

theorem exists_first (y : Fin 20 → EReal) : ∃ k, First y k := by
  obtain ⟨m, -, hm⟩ := Finset.exists_max_image Finset.univ y ⟨0, Finset.mem_univ _⟩
  have hS : (Finset.univ.filter fun k => y k = y m).Nonempty := ⟨m, by simp⟩
  have e := (Finset.mem_filter.1 ((Finset.univ.filter fun k => y k = y m).min'_mem hS)).2
  refine ⟨(Finset.univ.filter fun k => y k = y m).min' hS, fun j => ?_, fun j hj => ?_⟩
  · rw [e]; exact hm j (Finset.mem_univ _)
  · rw [e]
    refine lt_of_le_of_ne (hm j (Finset.mem_univ _)) fun h => ?_
    exact absurd (Finset.min'_le _ j (Finset.mem_filter.2 ⟨Finset.mem_univ _, h⟩)) (not_le.2 hj)

/-- The first index of the greatest score. -/
def best (y : Fin 20 → EReal) : Fin 20 := (exists_first y).choose

theorem best_first (y : Fin 20 → EReal) : First y (best y) := (exists_first y).choose_spec

/-- One at the best index, zero elsewhere. -/
def hot (y : Fin 20 → EReal) (k : Fin 20) : EReal := if k = best y then 1 else 0

/-- The features the blocks start from. -/
def prior (f : Im) (wm : Fin 384 → Fin 384 → EReal) (wp : Fin 384 → Fin 20 → EReal) (pb g : Fin 20 → EReal)
    (emb : Fin 20 → Fin 384 → EReal) : Im := fun r c => f r c + ∑ k, hot (score f wm wp pb g) k * emb k c

/-! ## The greatest score, and its index by a minimum -/

theorem fold_max (y : Fin 20 → EReal) : Finset.univ.fold max (⊥ : EReal) y = y (best y) :=
  le_antisymm ((Finset.fold_max_le _).2 ⟨bot_le, fun j _ => (best_first y).1 j⟩)
    ((Finset.le_fold_max _).2 (.inr ⟨best y, Finset.mem_univ _, le_rfl⟩))

theorem minsi_le (x y : BitVec 32) : (IntOp.minsi x y).toInt ≤ x.toInt ∧ (IntOp.minsi x y).toInt ≤ y.toInt := by
  unfold IntOp.minsi
  split <;> rename_i h <;> simp only [BitVec.slt, decide_eq_true_eq] at h <;> omega

theorem minsi_mem (x y : BitVec 32) : IntOp.minsi x y = x ∨ IntOp.minsi x y = y := by
  unfold IntOp.minsi
  split <;> simp

theorem fold_minsi (f : Fin 20 → BitVec 32) (b : BitVec 32) (s : Finset (Fin 20)) :
    (∀ x ∈ s, (s.fold IntOp.minsi b f).toInt ≤ (f x).toInt) ∧ (s.fold IntOp.minsi b f = b ∨ ∃ x ∈ s, s.fold IntOp.minsi b f = f x) := by
  classical
  induction s using Finset.induction_on with
  | empty => simp
  | insert a s ha ih =>
    rw [Finset.fold_insert ha]
    refine ⟨fun x hx => ?_, ?_⟩
    · rcases Finset.mem_insert.1 hx with rfl | hx
      · exact (minsi_le _ _).1
      · exact (minsi_le _ _).2.trans (ih.1 x hx)
    · rcases minsi_mem (f a) (s.fold IntOp.minsi b f) with h | h
      · exact .inr ⟨a, Finset.mem_insert_self _ _, h⟩
      · rcases ih.2 with h' | ⟨x, hx, h'⟩
        · exact .inl (h.trans h')
        · exact .inr ⟨x, Finset.mem_insert_of_mem hx, h.trans h'⟩

theorem toInt_small (k : ℕ) (h : k < 21) : (BitVec.ofNat 32 k).toInt = k := by
  interval_cases k <;> rfl

theorem fold_index (y : Fin 20 → EReal) :
    Finset.univ.fold IntOp.minsi (2147483647#32) (fun k : Fin 20 => if y k = y (best y) then BitVec.ofNat 32 k.val else 20#32)
      = BitVec.ofNat 32 (best y).val := by
  obtain ⟨h1, h2⟩ := fold_minsi (fun k : Fin 20 => if y k = y (best y) then BitVec.ofNat 32 k.val else 20#32) 2147483647#32 Finset.univ
  have h1 := h1 (best y) (Finset.mem_univ _)
  rw [if_pos rfl, toInt_small _ (by omega)] at h1
  rcases h2 with h2 | ⟨x, -, h2⟩
  · rw [h2] at h1
    have : (2147483647#32 : BitVec 32).toInt = 2147483647 := rfl
    omega
  · rw [h2] at h1 ⊢
    by_cases e : y x = y (best y)
    · rw [if_pos e, toInt_small _ (by omega)] at h1
      rw [if_pos e]
      have : ¬ x < best y := fun hx => absurd e (ne_of_lt ((best_first y).2 x hx))
      have : x = best y := Fin.ext (by rw [Fin.lt_def] at this; omega)
      rw [this]
    · rw [if_neg e] at h1
      have : (20#32 : BitVec 32).toInt = 20 := rfl
      omega

theorem cmpi_eq_best (y : Fin 20 → EReal) (k : Fin 20) :
    IntOp.cmpi CmpIPredicate.eq (BitVec.ofNat 32 k.val) (BitVec.ofNat 32 (best y).val) = if k = best y then 1#1 else 0#1 := by
  have : ∀ a b : Fin 20, IntOp.cmpi CmpIPredicate.eq (BitVec.ofNat 32 a.val) (BitVec.ofNat 32 b.val) = if a = b then 1#1 else 0#1 := by
    decide
  exact this _ _

/-! ## The same index by a fold over pairs -/

/-- The better of two pairs: the greater value, the smaller index between equal values. -/
def pick (a b : EReal × BitVec 32) : EReal × BitVec 32 := if b.1 < a.1 ∨ (a.1 = b.1 ∧ a.2.toInt < b.2.toInt) then a else b

/-- `b` is at least as good as `a`. -/
def Le (a b : EReal × BitVec 32) : Prop := a.1 < b.1 ∨ (a.1 = b.1 ∧ b.2.toInt ≤ a.2.toInt)

theorem Le.trans {a b c : EReal × BitVec 32} (h : Le a b) (h' : Le b c) : Le a c := by
  rcases h with h | ⟨h, g⟩ <;> rcases h' with h' | ⟨h', g'⟩
  · exact .inl (h.trans h')
  · exact .inl (h' ▸ h)
  · exact .inl (h ▸ h')
  · exact .inr ⟨h.trans h', g'.trans g⟩

theorem pick_le (a b : EReal × BitVec 32) : Le a (pick a b) ∧ Le b (pick a b) := by
  unfold pick
  split
  · rename_i h
    refine ⟨.inr ⟨rfl, le_rfl⟩, ?_⟩
    rcases h with h | ⟨h, g⟩
    · exact .inl h
    · exact .inr ⟨h.symm, g.le⟩
  · rename_i h
    refine ⟨?_, .inr ⟨rfl, le_rfl⟩⟩
    push Not at h
    rcases lt_or_eq_of_le h.1 with h' | h'
    · exact .inl h'
    · exact .inr ⟨h', h.2 h'⟩

theorem foldl_pick (l : List (EReal × BitVec 32)) (a : EReal × BitVec 32) :
    (∀ p ∈ a :: l, Le p (l.foldl pick a)) ∧ l.foldl pick a ∈ a :: l := by
  induction l generalizing a with
  | nil => simp [Le]
  | cons b l ih =>
    obtain ⟨h1, h2⟩ := ih (pick a b)
    have h0 := h1 _ (List.mem_cons_self)
    refine ⟨fun p hp => ?_, ?_⟩
    · rcases List.mem_cons.1 hp with rfl | hp
      · exact (pick_le _ _).1.trans h0
      · rcases List.mem_cons.1 hp with rfl | hp
        · exact (pick_le _ _).2.trans h0
        · exact h1 p (List.mem_cons_of_mem _ hp)
    · rw [List.foldl_cons]
      rcases List.mem_cons.1 h2 with h | h
      · rw [h]; unfold pick; split <;> simp
      · exact List.mem_cons_of_mem _ (List.mem_cons_of_mem _ h)

/-- The fold over every index's pair, in any order, from the least value at index zero, ends at the best index. -/
theorem foldl_best (y : Fin 20 → EReal) (l : List (EReal × BitVec 32)) (hl : ∀ p, p ∈ l ↔ ∃ k : Fin 20, p = (y k, BitVec.ofNat 32 k.val)) :
    (l.foldl pick (⊥, 0#32)).2 = BitVec.ofNat 32 (best y).val := by
  obtain ⟨h1, h2⟩ := foldl_pick l (⊥, 0#32)
  have hb := h1 (y (best y), BitVec.ofNat 32 (best y).val) (List.mem_cons_of_mem _ ((hl _).2 ⟨_, rfl⟩))
  rcases List.mem_cons.1 h2 with h | h
  · rw [h] at hb ⊢
    rcases hb with hb | ⟨hb, -⟩
    · exact absurd hb not_lt_bot
    · have : ¬ (0 : Fin 20) < best y := fun h0 => by
        have := (best_first y).2 0 h0
        simp only at hb
        rw [hb] at this
        exact not_lt_bot this
      have : best y = 0 := Fin.ext (by rw [Fin.lt_def] at this; simp at this ⊢; omega)
      rw [this]
      rfl
  · obtain ⟨k, hk⟩ := (hl _).1 h
    rw [hk] at hb ⊢
    rcases hb with hb | ⟨hb, g⟩
    · exact absurd hb (not_lt.2 ((best_first y).1 k))
    · simp only at hb g
      rw [toInt_small _ (by omega), toInt_small _ (by omega)] at g
      have : ¬ k < best y := fun hx => absurd hb (ne_of_gt ((best_first y).2 k hx))
      have : k = best y := Fin.ext (by rw [Fin.lt_def] at this; omega)
      rw [this]

/-! ## Finite numbers -/

/-- A finite number. -/
def IsReal (x : EReal) : Prop := ∃ r : ℝ, x = r

theorem IsReal.add {x y : EReal} : IsReal x → IsReal y → IsReal (x + y) := by
  rintro ⟨r, rfl⟩ ⟨s, rfl⟩; exact ⟨r + s, (EReal.coe_add _ _).symm⟩

theorem IsReal.mul {x y : EReal} : IsReal x → IsReal y → IsReal (x * y) := by
  rintro ⟨r, rfl⟩ ⟨s, rfl⟩; exact ⟨r * s, (EReal.coe_mul _ _).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.logistic (x : EReal) : IsReal (Ideal.logistic x) := by
  induction x using EReal.rec with
  | bot => exact ⟨0, by simp⟩
  | top => exact ⟨1, by simp⟩
  | coe r => exact ⟨_, Ideal.logistic_coe r⟩

theorem score_fin {f : Im} {wm : Fin 384 → Fin 384 → EReal} {wp : Fin 384 → Fin 20 → EReal} {pb g : Fin 20 → EReal}
    (h1 : ∀ o k, IsReal (wp o k)) (h2 : ∀ k, IsReal (pb k)) (h3 : ∀ k, IsReal (g k)) (k : Fin 20) : IsReal (score f wm wp pb g k) :=
  ((IsReal.sum _ fun o => (IsReal.logistic _).mul (h1 o k)).add (h2 k)).add (h3 k)

/-- Subtracting a soft weight and adding it back. -/
theorem straight {y : Fin 20 → EReal} (hy : ∀ k, IsReal (y k)) {M : EReal} (hM : IsReal M) {a : EReal} (ha : IsReal a) (k : Fin 20) :
    a - Ideal.div (Ideal.exp (y k - M)) (∑ j, Ideal.exp (y j - M)) + Ideal.div (Ideal.exp (y k - M)) (∑ j, Ideal.exp (y j - M)) = a := by
  choose r hr using hy
  obtain ⟨s, rfl⟩ := hM
  obtain ⟨a, rfl⟩ := ha
  have e : ∀ j, Ideal.exp (y j - (s : EReal)) = ((Real.exp (r j - s) : ℝ) : EReal) := fun j => by
    rw [hr, ← EReal.coe_sub]; rfl
  simp only [e]
  have : ∑ j, ((Real.exp (r j - s) : ℝ) : EReal) = ((∑ j, Real.exp (r j - s) : ℝ) : EReal) := by
    induction (Finset.univ : Finset (Fin 20)) using Finset.induction_on with
    | empty => simp
    | insert a s ha ih => rw [Finset.sum_insert ha, Finset.sum_insert ha, ih, EReal.coe_add]
  rw [this]
  have hp : (0 : ℝ) < ∑ j : Fin 20, Real.exp (r j - s) := Finset.sum_pos (fun j _ => Real.exp_pos _) ⟨0, Finset.mem_univ _⟩
  have hd : ∃ q : ℝ, Ideal.div ((Real.exp (r k - s) : ℝ) : EReal) ((∑ j, Real.exp (r j - s) : ℝ) : EReal) = q := by
    refine ⟨Real.exp (r k - s) * (∑ j, Real.exp (r j - s))⁻¹, ?_⟩
    rw [Ideal.div, if_neg (by rw [EReal.coe_eq_zero]; exact hp.ne'), ← EReal.coe_inv, EReal.coe_mul]
  obtain ⟨q, hq⟩ := hd
  rw [hq, ← EReal.coe_sub, ← EReal.coe_add, sub_add_cancel]

theorem div_one (x : EReal) : Ideal.div x 1 = x := by
  rw [Ideal.div, if_neg one_ne_zero, inv_one, mul_one]

theorem hot_fin (y : Fin 20 → EReal) (k : Fin 20) : IsReal (hot y k) := by
  unfold hot
  split
  · exact ⟨1, by simp⟩
  · exact ⟨0, by simp⟩

end Cert.Prior

end
-- ==== Proof.KPrior.lean ====
/- The features the first kernel starts its residual block from. -/
module

public import proofs.«01_k».proof.Proof.Conv
public import proofs.«01_k».proof.Proof.Prior

@[expose] public section

set_option maxRecDepth 16384
set_option maxHeartbeats 2000000

noncomputable section

namespace Cert.KPrior

open Idealize.ShloMosaic Cert.Prior Cert.Spec Cert.KernelIdeal Cert.KernelIdeal.Gen

/-- One image of the array the first kernel reads. -/
def imx (x : Vec Ideal S8x24x24x384 .f32) (b : Fin 8) : Im := fun r i => x (ix4 b ⟨r.val / 24, by omega⟩ ⟨r.val % 24, by omega⟩ i)

theorem pay24_apply (x : Vec Ideal S8x24x24x384 .f32) (b : Fin 8) (c : Fin 384) :
    k0_pay24 x (ix2 b c) = pool (imx x b) c := by
  pointwise [k0_pay24, k0_pay23]
  rfl

theorem ofBits_bot : Ideal.ofBits FTy.f32 4286578688#32 = ⊥ := by
  simp [Ideal.ofBits, Ideal.ieee]

theorem sitofp_bit (c : Prop) [Decidable c] :
    (FloatOps.sitofp FTy.f32 (BitVec.setWidth 32 (if c then 1#1 else 0#1)) : Ideal .f32) = if c then (1 : EReal) else 0 := by
  split <;> simp [FloatOps.sitofp]

variable (x : Vec Ideal S8x24x24x384 .f32) (wm : Vec Ideal S384x384 .f32) (wp : Vec Ideal S384x20 .f32)
  (pb : Vec Ideal S1x20 .f32) (g : Vec Ideal S8x20 .f32) (emb : Vec Ideal S20x384 .f32)

/-- Image `b`'s features. -/
def feat (b : Fin 8) : Im := prior (imx x b) (fun i o => wm (ix2 i o)) (fun o k => wp (ix2 o k)) (fun k => pb (ix2 0 k))
  (fun k => g (ix2 b k)) (fun k c => emb (ix2 k c))

theorem pay25_apply (b : Fin 8) (r : Fin 576) (c : Fin 384) :
    k0_pay25 (k0_pay23 x) (k0_pay24 x) wm wp pb g emb (ix3 b r c) = feat x wm wp pb g emb b r c := by
  pointwise [k0_pay25]
  simp only [pay24_apply, ofBits_bot]
  have hy : ∀ k, (∑ o, Ideal.logistic (∑ i, pool (imx x b) i * wm (ix2 i o)) * wp (ix2 o k) + pb (ix2 0 k) + g (ix2 b k))
    = score (imx x b) (fun i o => wm (ix2 i o)) (fun o k => wp (ix2 o k)) (fun k => pb (ix2 0 k)) (fun k => g (ix2 b k)) k :=
    fun _ => rfl
  simp only [hy, fold_max, fold_index, cmpi_eq_best, sitofp_bit]
  unfold feat prior hot
  refine congrArg (· + _) ?_
  pointwise [k0_pay23]
  rfl

end Cert.KPrior

end
-- ==== Proof.Stage0.lean ====
/- What the first kernel leaves in its output: the eight images, each its features' residual block, between zeros. -/
module

public import proofs.«01_k».proof.Proof.Chunks
public import proofs.«01_k».proof.Proof.KPrior
public import proofs.«01_k».proof.Proof.Gen.KernelIdeal.Frame

@[expose] public section

set_option maxRecDepth 16384

noncomputable section

namespace Cert.Stage0

open Idealize.ShloMosaic Cert.KernelIdeal Cert.KernelIdeal.Gen Cert.Store Cert.Spec Cert.Conv Cert.Chunks Cert.KPrior

/-! ## The eight images of features -/

section Pieces
variable (x : Vec Ideal S8x24x24x384 .f32) (wm : Vec Ideal S384x384 .f32) (wp : Vec Ideal S384x20 .f32)
  (pb : Vec Ideal S1x20 .f32) (g : Vec Ideal S8x20 .f32) (emb : Vec Ideal S20x384 .f32)

/-- All eight together. -/
abbrev all8 : FVec Ideal S8x576x384 .f32 := k0_pay25 (k0_pay23 x) (k0_pay24 x) wm wp pb g emb

theorem img_of (p : Img) (b : Fin 8) (h : ∀ r o, p (ix2 r o) = all8 x wm wp pb g emb (ix3 b r o)) : p = img (feat x wm wp pb g emb b) := by
  funext j
  obtain ⟨r, o, rfl⟩ : ∃ r o, j = ix2 r o := ⟨j 0, j 1, eq_ix2 j⟩
  exact (h r o).trans (pay25_apply x wm wp pb g emb b r o)

theorem p0 : k0_pay26 (k0_pay23 x) (k0_pay24 x) wm wp pb g emb = img (feat x wm wp pb g emb 0) :=
  img_of x wm wp pb g emb _ 0 fun r o => by pointwise [k0_pay26]
theorem p1 : k0_pay27 (k0_pay23 x) (k0_pay24 x) wm wp pb g emb = img (feat x wm wp pb g emb 1) :=
  img_of x wm wp pb g emb _ 1 fun r o => by pointwise [k0_pay27]
theorem p2 : k0_pay28 (all8 x wm wp pb g emb) = img (feat x wm wp pb g emb 2) :=
  img_of x wm wp pb g emb _ 2 fun r o => by pointwise [k0_pay28]
theorem p3 : k0_pay29 (all8 x wm wp pb g emb) = img (feat x wm wp pb g emb 3) :=
  img_of x wm wp pb g emb _ 3 fun r o => by pointwise [k0_pay29]
theorem p4 : k0_pay30 (all8 x wm wp pb g emb) = img (feat x wm wp pb g emb 4) :=
  img_of x wm wp pb g emb _ 4 fun r o => by pointwise [k0_pay30]
theorem p5 : k0_pay31 (all8 x wm wp pb g emb) = img (feat x wm wp pb g emb 5) :=
  img_of x wm wp pb g emb _ 5 fun r o => by pointwise [k0_pay31]
theorem p6 : k0_pay32 (all8 x wm wp pb g emb) = img (feat x wm wp pb g emb 6) :=
  img_of x wm wp pb g emb _ 6 fun r o => by pointwise [k0_pay32]
theorem p7 : k0_pay33 (all8 x wm wp pb g emb) = img (feat x wm wp pb g emb 7) :=
  img_of x wm wp pb g emb _ 7 fun r o => by pointwise [k0_pay33]

end Pieces

/-- The zero the padding is made of. -/
theorem zero_bits : (Scalar.ofBits .bf16 0x0000#16 : Ideal .bf16) = (0 : EReal) := by
  simp [Scalar.ofBits, FloatOps.ofBits, Ideal.ofBits, Ideal.ieee]

variable (c : Dev nD)
  (arg0 : Memref sig .tc .vmem S8x24x24x384 .f32) (harg0 : arg0.IsWhole)
  (arg1 : Memref sig .tc .vmem S384x384 .f32) (harg1 : arg1.IsWhole)
  (arg2 : Memref sig .tc .vmem S384x20 .f32) (harg2 : arg2.IsWhole)
  (arg3 : Memref sig .tc .vmem S1x20 .f32) (harg3 : arg3.IsWhole)
  (arg4 : Memref sig .tc .vmem S8x20 .f32) (harg4 : arg4.IsWhole)
  (arg5 : Memref sig .tc .vmem S20x384 .f32) (harg5 : arg5.IsWhole)
  (arg6 : Memref sig .tc .vmem S2x3456x384 .bf16) (harg6 : arg6.IsWhole)
  (arg7 : Memref sig .tc .vmem S2x384 .f32) (harg7 : arg7.IsWhole)
  (arg8 : Memref sig .tc .vmem S5120x384 .bf16) (harg8 : arg8.IsWhole)
  (arg9 : Memref sig .tc .vmem S5120x384 .bf16) (harg9 : arg9.IsWhole)
  (x0 : Vec Ideal S8x24x24x384 .f32) (x1 : Vec Ideal S384x384 .f32) (x2 : Vec Ideal S384x20 .f32) (x3 : Vec Ideal S1x20 .f32) (x4 : Vec Ideal S8x20 .f32) (x5 : Vec Ideal S20x384 .f32) (x6 : Vec Ideal S2x3456x384 .bf16) (x7 : Vec Ideal S2x384 .f32)

/-- Image `b`'s features. -/
def start (b : ℕ) : Im := feat x0 x1 x2 x3 x4 x5 (Fin.ofNat 8 b)

/-- The weights of convolution `l`, as loaded. -/
abbrev w0 : Vec Ideal S1x3456x384 .bf16 :=
  View.readAt (Elt Ideal) arg6.view (Rect.unit (s := S2x3456x384) ![0, 0, 0] S1x3456x384.size inb_S2x3456x384_S1x3456x384_0_0_0).toLoadRect (harg6.unread x6)
abbrev w1 : Vec Ideal S1x3456x384 .bf16 :=
  View.readAt (Elt Ideal) arg6.view (Rect.unit (s := S2x3456x384) ![1, 0, 0] S1x3456x384.size inb_S2x3456x384_S1x3456x384_1_0_0).toLoadRect (harg6.unread x6)

/-- The biases. -/
abbrev β0 : FVec Ideal S1x384 .f32 := k0_pay34
  (View.readAt (Elt Ideal) arg7.view (Rect.unit (s := S2x384) ![0, 0] S1x384.size inb_S2x384_S1x384_0_0).toLoadRect (harg7.unread x7))
abbrev β1 : FVec Ideal S1x384 .f32 := k0_pay62
  (View.readAt (Elt Ideal) arg7.view (Rect.unit (s := S2x384) ![1, 0] S1x384.size inb_S2x384_S1x384_1_0).toLoadRect (harg7.unread x7))

theorem h8 : Full (kernelRun0_A.sl.H8_24 c arg0 harg0 arg1 harg1 arg2 harg2 arg3 harg3 arg4 harg4 arg5 harg5 x0 x1 x2 x3 x4 x5) (fun b => img (start x0 x1 x2 x3 x4 x5 b)) := by
  have e : feat (View.readAt (Elt Ideal) arg0.view (Rect.unit (s := S8x24x24x384) ![0, 0, 0, 0] S8x24x24x384.size inb_S8x24x24x384_S8x24x24x384_0_0_0_0).toLoadRect (harg0.unread x0))
      (View.readAt (Elt Ideal) arg1.view (Rect.unit (s := S384x384) ![0, 0] S384x384.size inb_S384x384_S384x384_0_0).toLoadRect (harg1.unread x1))
      (View.readAt (Elt Ideal) arg2.view (Rect.unit (s := S384x20) ![0, 0] S384x20.size inb_S384x20_S384x20_0_0).toLoadRect (harg2.unread x2))
      (View.readAt (Elt Ideal) arg3.view (Rect.unit (s := S1x20) ![0, 0] S1x20.size inb_S1x20_S1x20_0_0).toLoadRect (harg3.unread x3))
      (View.readAt (Elt Ideal) arg4.view (Rect.unit (s := S8x20) ![0, 0] S8x20.size inb_S8x20_S8x20_0_0).toLoadRect (harg4.unread x4))
      (View.readAt (Elt Ideal) arg5.view (Rect.unit (s := S20x384) ![0, 0] S20x384.size inb_S20x384_S20x384_0_0).toLoadRect (harg5.unread x5))
      = feat x0 x1 x2 x3 x4 x5 := by
    rw [whole_load _ _ _ _ (by decide), whole_load _ _ _ _ (by decide), whole_load _ _ _ _ (by decide), whole_load _ _ _ _ (by decide),
      whole_load _ _ _ _ (by decide), whole_load _ _ _ _ (by decide)]
  refine full_of (pads_of ?_) _ ?_ ?_ ?_ ?_ ?_ ?_ ?_ ?_
  · intro n x
    fin_cases n <;> exact zero_bits
  · exact (p0 _ _ _ _ _ _).trans (congrArg img (congrFun e 0))
  · exact (p1 _ _ _ _ _ _).trans (congrArg img (congrFun e 1))
  · exact (p2 _ _ _ _ _ _).trans (congrArg img (congrFun e 2))
  · exact (p3 _ _ _ _ _ _).trans (congrArg img (congrFun e 3))
  · exact (p4 _ _ _ _ _ _).trans (congrArg img (congrFun e 4))
  · exact (p5 _ _ _ _ _ _).trans (congrArg img (congrFun e 5))
  · exact (p6 _ _ _ _ _ _).trans (congrArg img (congrFun e 6))
  · exact (p7 _ _ _ _ _ _).trans (congrArg img (congrFun e 7))

/-- The first convolution's images. -/
def mid (b : ℕ) : Im := crelu (start x0 x1 x2 x3 x4 x5 b) (wk (w0 arg6 harg6 x6)) (bk (β0 arg7 harg7 x7))

theorem hs : Full (kernelRun0_A.sl.HS0_24 c arg0 harg0 arg1 harg1 arg2 harg2 arg3 harg3 arg4 harg4 arg5 harg5 arg6 harg6 arg7 harg7 arg8 x0 x1 x2 x3 x4 x5 x6 x7) (fun b => img (mid arg6 harg6 arg7 harg7 x0 x1 x2 x3 x4 x5 x6 x7 b)) := by
  have h := h8 c arg0 harg0 arg1 harg1 arg2 harg2 arg3 harg3 arg4 harg4 arg5 harg5 x0 x1 x2 x3 x4 x5
  refine full_of (pads_of ?_) _ ?_ ?_ ?_ ?_ ?_ ?_ ?_ ?_
  · intro n x
    fin_cases n <;> exact zero_bits
  · exact (a0 _ _ _).trans (plain_cast (slab_read (b := 0) arg8.view h.1 (h.2 0 (by decide)) _))
  · exact (a1 _ _ _).trans (plain_cast (slab_read (b := 1) arg8.view h.1 (h.2 1 (by decide)) _))
  · exact (a2 _ _ _).trans (plain_cast (slab_read (b := 2) arg8.view h.1 (h.2 2 (by decide)) _))
  · exact (a3 _ _ _).trans (plain_cast (slab_read (b := 3) arg8.view h.1 (h.2 3 (by decide)) _))
  · exact (a4 _ _ _).trans (plain_cast (slab_read (b := 4) arg8.view h.1 (h.2 4 (by decide)) _))
  · exact (a5 _ _ _).trans (plain_cast (slab_read (b := 5) arg8.view h.1 (h.2 5 (by decide)) _))
  · exact (a6 _ _ _).trans (plain_cast (slab_read (b := 6) arg8.view h.1 (h.2 6 (by decide)) _))
  · exact (a7 _ _ _).trans (plain_cast (slab_read (b := 7) arg8.view h.1 (h.2 7 (by decide)) _))

theorem out8 : Full (kernelRun0_A c arg0 harg0 arg1 harg1 arg2 harg2 arg3 harg3 arg4 harg4 arg5 harg5 arg6 harg6 arg7 harg7 arg8 harg8 arg9 harg9 x0 x1 x2 x3 x4 x5 x6 x7).1 (fun b => img (cres (mid arg6 harg6 arg7 harg7 x0 x1 x2 x3 x4 x5 x6 x7 b) (start x0 x1 x2 x3 x4 x5 b)
    (wk (w1 arg6 harg6 x6)) (bk (β1 arg7 harg7 x7)))) := by
  have h8 := h8 c arg0 harg0 arg1 harg1 arg2 harg2 arg3 harg3 arg4 harg4 arg5 harg5 x0 x1 x2 x3 x4 x5
  have h := hs c arg0 harg0 arg1 harg1 arg2 harg2 arg3 harg3 arg4 harg4 arg5 harg5 arg6 harg6 arg7 harg7 arg8 x0 x1 x2 x3 x4 x5 x6 x7
  refine full_of h8.1 _ ?_ ?_ ?_ ?_ ?_ ?_ ?_ ?_
  · exact (b0 _ _ _ _).trans (skip_bare (slab_read (b := 0) arg9.view h.1 (h.2 0 (by decide)) _) (img_read (b := 0) arg8.view (h8.2 0 (by decide)) _))
  · exact (b1 _ _ _ _).trans (skip_bare (slab_read (b := 1) arg9.view h.1 (h.2 1 (by decide)) _) (img_read (b := 1) arg8.view ((h8.2 1 (by decide)).old (b' := 0) (by decide) _ _) _))
  · exact (b2 _ _ _ _).trans (skip_bare (slab_read (b := 2) arg9.view h.1 (h.2 2 (by decide)) _) (img_read (b := 2) arg8.view (((h8.2 2 (by decide)).old (b' := 0) (by decide) _ _).old (b' := 1) (by decide) _ _) _))
  · exact (b3 _ _ _ _).trans (skip_bare (slab_read (b := 3) arg9.view h.1 (h.2 3 (by decide)) _) (img_read (b := 3) arg8.view ((((h8.2 3 (by decide)).old (b' := 0) (by decide) _ _).old (b' := 1) (by decide) _ _).old (b' := 2) (by decide) _ _) _))
  · exact (b4 _ _ _ _).trans (skip_bare (slab_read (b := 4) arg9.view h.1 (h.2 4 (by decide)) _) (img_read (b := 4) arg8.view (((((h8.2 4 (by decide)).old (b' := 0) (by decide) _ _).old (b' := 1) (by decide) _ _).old (b' := 2) (by decide) _ _).old (b' := 3) (by decide) _ _) _))
  · exact (b5 _ _ _ _).trans (skip_bare (slab_read (b := 5) arg9.view h.1 (h.2 5 (by decide)) _) (img_read (b := 5) arg8.view ((((((h8.2 5 (by decide)).old (b' := 0) (by decide) _ _).old (b' := 1) (by decide) _ _).old (b' := 2) (by decide) _ _).old (b' := 3) (by decide) _ _).old (b' := 4) (by decide) _ _) _))
  · exact (b6 _ _ _ _).trans (skip_bare (slab_read (b := 6) arg9.view h.1 (h.2 6 (by decide)) _) (img_read (b := 6) arg8.view (((((((h8.2 6 (by decide)).old (b' := 0) (by decide) _ _).old (b' := 1) (by decide) _ _).old (b' := 2) (by decide) _ _).old (b' := 3) (by decide) _ _).old (b' := 4) (by decide) _ _).old (b' := 5) (by decide) _ _) _))
  · exact (b7 _ _ _ _).trans (skip_bare (slab_read (b := 7) arg9.view h.1 (h.2 7 (by decide)) _) (img_read (b := 7) arg8.view ((((((((h8.2 7 (by decide)).old (b' := 0) (by decide) _ _).old (b' := 1) (by decide) _ _).old (b' := 2) (by decide) _ _).old (b' := 3) (by decide) _ _).old (b' := 4) (by decide) _ _).old (b' := 5) (by decide) _ _).old (b' := 6) (by decide) _ _) _))

end Cert.Stage0

end
-- ==== Proof.Stage1.lean ====
/- What the second kernel leaves in its output, from an array of eight images between zeros: two residual blocks of each. -/
module

public import proofs.«01_k».proof.Proof.Chunks
public import proofs.«01_k».proof.Proof.Gen.KernelIdeal.Frame

@[expose] public section

set_option maxRecDepth 16384

noncomputable section

namespace Cert.Stage1

open Idealize.ShloMosaic Cert.KernelIdeal Cert.KernelIdeal.Gen Cert.Store Cert.Spec Cert.Conv Cert.Chunks

/-! ## The output's eight stores -/

/-- Image `b` of the output holds `f`. -/
def Placed (L : List (View.Piece (Elt Ideal) S8x24x24x384 .f32)) (b : Fin 8) (f : Im) : Prop :=
  ∀ (y x : Fin 24) (o : Fin 384), View.canon L (ix4 b y x o) = f ⟨24 * y.val + x.val, by omega⟩ o

/-- One image's store holds `f`. -/
def Holds (q : FVec Ideal S1x24x24x384 .f32) (f : Im) : Prop :=
  ∀ (y x : Fin 24) (o : Fin 384), q (ix4 0 y x o) = f ⟨24 * y.val + x.val, by omega⟩ o

variable {L : List (View.Piece (Elt Ideal) S8x24x24x384 .f32)}

theorem Placed.new (b : Fin 8) (inb : ∀ a, (![b.val, 0, 0, 0] : Fin 4 → ℕ) a + S1x24x24x384.size a ≤ S8x24x24x384.size a)
    {q : FVec Ideal S1x24x24x384 .f32} {f : Im} (h : Holds q f) :
    Placed (⟨Rect.unit (s := S8x24x24x384) ![b.val, 0, 0, 0] S1x24x24x384.size inb, q⟩ :: L) b f := by
  intro y x o
  have hy : (Rect.unit (s := S8x24x24x384) ![b.val, 0, 0, 0] S1x24x24x384.size inb).emb (ix4 0 y x o) = ix4 b y x o := by
    funext a
    apply Fin.ext
    refine (Rect.idx_unit_val _ _ inb (ix4 0 y x o) a).trans ?_
    fin_cases a
    · rfl
    · exact Nat.zero_add _
    · exact Nat.zero_add _
    · exact Nat.zero_add _
  rw [← hy]
  exact (View.canon_cons_emb _ _ _ _).trans (h y x o)

theorem Placed.old {b : Fin 8} {f : Im} (h : Placed L b f) (b' : Fin 8) (hb : b' ≠ b)
    (inb : ∀ a, (![b'.val, 0, 0, 0] : Fin 4 → ℕ) a + S1x24x24x384.size a ≤ S8x24x24x384.size a) (q : FVec Ideal S1x24x24x384 .f32) :
    Placed (⟨Rect.unit (s := S8x24x24x384) ![b'.val, 0, 0, 0] S1x24x24x384.size inb, q⟩ :: L) b f := by
  intro y x o
  rw [View.canon_cons_of_not_mem]
  · exact h y x o
  · rw [Rect.mem_set_unit]
    intro hm
    have h0 : b'.val ≤ b.val ∧ b.val < b'.val + 1 := hm 0
    exact hb (Fin.ext (by omega))

/-- The eight stores together. -/
theorem placed {q0 q1 q2 q3 q4 q5 q6 q7 : FVec Ideal S1x24x24x384 .f32} {i0 i1 i2 i3 i4 i5 i6 i7} (f : ℕ → Im)
    (h0 : Holds q0 (f 0)) (h1 : Holds q1 (f 1)) (h2 : Holds q2 (f 2)) (h3 : Holds q3 (f 3)) (h4 : Holds q4 (f 4)) (h5 : Holds q5 (f 5))
    (h6 : Holds q6 (f 6)) (h7 : Holds q7 (f 7)) (b : Fin 8) :
    Placed [⟨Rect.unit (s := S8x24x24x384) ![7, 0, 0, 0] S1x24x24x384.size i7, q7⟩,
      ⟨Rect.unit (s := S8x24x24x384) ![6, 0, 0, 0] S1x24x24x384.size i6, q6⟩,
      ⟨Rect.unit (s := S8x24x24x384) ![5, 0, 0, 0] S1x24x24x384.size i5, q5⟩,
      ⟨Rect.unit (s := S8x24x24x384) ![4, 0, 0, 0] S1x24x24x384.size i4, q4⟩,
      ⟨Rect.unit (s := S8x24x24x384) ![3, 0, 0, 0] S1x24x24x384.size i3, q3⟩,
      ⟨Rect.unit (s := S8x24x24x384) ![2, 0, 0, 0] S1x24x24x384.size i2, q2⟩,
      ⟨Rect.unit (s := S8x24x24x384) ![1, 0, 0, 0] S1x24x24x384.size i1, q1⟩,
      ⟨Rect.unit (s := S8x24x24x384) ![0, 0, 0, 0] S1x24x24x384.size i0, q0⟩] b (f b.val) := by
  match b with
  | ⟨0, _⟩ => exact ((((((((Placed.new 0 i0 (h0)).old 1 (by decide) i1 _).old 2 (by decide) i2 _).old 3 (by decide) i3 _).old 4 (by decide) i4 _).old 5 (by decide) i5 _).old 6 (by decide) i6 _).old 7 (by decide) i7 _)
  | ⟨1, _⟩ => exact (((((((Placed.new 1 i1 (h1)).old 2 (by decide) i2 _).old 3 (by decide) i3 _).old 4 (by decide) i4 _).old 5 (by decide) i5 _).old 6 (by decide) i6 _).old 7 (by decide) i7 _)
  | ⟨2, _⟩ => exact ((((((Placed.new 2 i2 (h2)).old 3 (by decide) i3 _).old 4 (by decide) i4 _).old 5 (by decide) i5 _).old 6 (by decide) i6 _).old 7 (by decide) i7 _)
  | ⟨3, _⟩ => exact (((((Placed.new 3 i3 (h3)).old 4 (by decide) i4 _).old 5 (by decide) i5 _).old 6 (by decide) i6 _).old 7 (by decide) i7 _)
  | ⟨4, _⟩ => exact ((((Placed.new 4 i4 (h4)).old 5 (by decide) i5 _).old 6 (by decide) i6 _).old 7 (by decide) i7 _)
  | ⟨5, _⟩ => exact (((Placed.new 5 i5 (h5)).old 6 (by decide) i6 _).old 7 (by decide) i7 _)
  | ⟨6, _⟩ => exact ((Placed.new 6 i6 (h6)).old 7 (by decide) i7 _)
  | ⟨7, _⟩ => exact (Placed.new 7 i7 (h7))

theorem holds_skip {s : Vec Ideal S640x384 .bf16} {q : Vec Ideal S576x384 .bf16} {w : Vec Ideal S1x3456x384 .bf16} {b : FVec Ideal S1x384 .f32}
    {f g : Im} (hs : s = padded (img f)) (hq : q = img g) : Holds (grid (skip s q w b)) (cres f g (wk w) (bk b)) := by
  subst hs hq
  exact grid_skip f g w b

/-! ## The four convolutions -/

theorem zero_bits : (Scalar.ofBits .bf16 0x0000#16 : Ideal .bf16) = (0 : EReal) := by
  simp [Scalar.ofBits, FloatOps.ofBits, Ideal.ofBits, Ideal.ieee]

variable (c : Dev nD)
  (arg0 : Memref sig .tc .vmem S5120x384 .bf16) (harg0 : arg0.IsWhole)
  (arg1 : Memref sig .tc .vmem S2x3456x384 .bf16) (harg1 : arg1.IsWhole)
  (arg2 : Memref sig .tc .vmem S2x384 .f32) (harg2 : arg2.IsWhole)
  (arg3 : Memref sig .tc .vmem S2x3456x384 .bf16) (harg3 : arg3.IsWhole)
  (arg4 : Memref sig .tc .vmem S2x384 .f32) (harg4 : arg4.IsWhole)
  (arg5 : Memref sig .tc .vmem S8x24x24x384 .f32) (harg5 : arg5.IsWhole)
  (arg6 : Memref sig .tc .vmem S5120x384 .bf16) (harg6 : arg6.IsWhole)
  (arg7 : Memref sig .tc .vmem S5120x384 .bf16) (harg7 : arg7.IsWhole)
  (x0 : Vec Ideal S5120x384 .bf16) (x1 : Vec Ideal S2x3456x384 .bf16) (x2 : Vec Ideal S2x384 .f32) (x3 : Vec Ideal S2x3456x384 .bf16) (x4 : Vec Ideal S2x384 .f32)

/-- The weights and biases of convolution `l` of either block, as loaded. -/
abbrev w0 : Vec Ideal S1x3456x384 .bf16 :=
  View.readAt (Elt Ideal) arg1.view (Rect.unit (s := S2x3456x384) ![0, 0, 0] S1x3456x384.size inb_S2x3456x384_S1x3456x384_0_0_0).toLoadRect (harg1.unread x1)
abbrev w1 : Vec Ideal S1x3456x384 .bf16 :=
  View.readAt (Elt Ideal) arg1.view (Rect.unit (s := S2x3456x384) ![1, 0, 0] S1x3456x384.size inb_S2x3456x384_S1x3456x384_1_0_0).toLoadRect (harg1.unread x1)
abbrev w2 : Vec Ideal S1x3456x384 .bf16 :=
  View.readAt (Elt Ideal) arg3.view (Rect.unit (s := S2x3456x384) ![0, 0, 0] S1x3456x384.size inb_S2x3456x384_S1x3456x384_0_0_0).toLoadRect (harg3.unread x3)
abbrev w3 : Vec Ideal S1x3456x384 .bf16 :=
  View.readAt (Elt Ideal) arg3.view (Rect.unit (s := S2x3456x384) ![1, 0, 0] S1x3456x384.size inb_S2x3456x384_S1x3456x384_1_0_0).toLoadRect (harg3.unread x3)
abbrev β0 : FVec Ideal S1x384 .f32 := k1_pay40
  (View.readAt (Elt Ideal) arg2.view (Rect.unit (s := S2x384) ![0, 0] S1x384.size inb_S2x384_S1x384_0_0).toLoadRect (harg2.unread x2))
abbrev β1 : FVec Ideal S1x384 .f32 := k1_pay63
  (View.readAt (Elt Ideal) arg2.view (Rect.unit (s := S2x384) ![1, 0] S1x384.size inb_S2x384_S1x384_1_0).toLoadRect (harg2.unread x2))
abbrev β2 : FVec Ideal S1x384 .f32 := k1_pay78
  (View.readAt (Elt Ideal) arg4.view (Rect.unit (s := S2x384) ![0, 0] S1x384.size inb_S2x384_S1x384_0_0).toLoadRect (harg4.unread x4))
abbrev β3 : FVec Ideal S1x384 .f32 := k1_pay101
  (View.readAt (Elt Ideal) arg4.view (Rect.unit (s := S2x384) ![1, 0] S1x384.size inb_S2x384_S1x384_1_0).toLoadRect (harg4.unread x4))

variable (p : ℕ → Im)

/-- The images after each convolution. -/
def m1 (b : ℕ) : Im := crelu (p b) (wk (w0 arg1 harg1 x1)) (bk (β0 arg2 harg2 x2))
def l1 (b : ℕ) : Im := cres (m1 arg1 harg1 arg2 harg2 x1 x2 p b) (p b) (wk (w1 arg1 harg1 x1)) (bk (β1 arg2 harg2 x2))
def m2 (b : ℕ) : Im := crelu (l1 arg1 harg1 arg2 harg2 x1 x2 p b) (wk (w2 arg3 harg3 x3)) (bk (β2 arg4 harg4 x4))
def l2 (b : ℕ) : Im := cres (m2 arg1 harg1 arg2 harg2 arg3 harg3 arg4 harg4 x1 x2 x3 x4 p b) (l1 arg1 harg1 arg2 harg2 x1 x2 p b)
  (wk (w3 arg3 harg3 x3)) (bk (β3 arg4 harg4 x4))

variable {p} (hx : Whole x0 (fun b => img (p b)))
include hx

theorem s1 : Full (kernelRun1_A.sl.HS1_24 c arg0 harg0 arg1 harg1 arg2 harg2 x0 x1 x2) (fun b => img (m1 arg1 harg1 arg2 harg2 x1 x2 p b)) := by
  refine full_of (pads_of ?_) _ ?_ ?_ ?_ ?_ ?_ ?_ ?_ ?_
  · intro n x
    fin_cases n <;> exact zero_bits
  · exact (c0 _ _ _).trans (plain_cast (slab_load harg0 hx 0 (by decide) _))
  · exact (c1 _ _ _).trans (plain_cast (slab_load harg0 hx 1 (by decide) _))
  · exact (c2 _ _ _).trans (plain_cast (slab_load harg0 hx 2 (by decide) _))
  · exact (c3 _ _ _).trans (plain_cast (slab_load harg0 hx 3 (by decide) _))
  · exact (c4 _ _ _).trans (plain_cast (slab_load harg0 hx 4 (by decide) _))
  · exact (c5 _ _ _).trans (plain_cast (slab_load harg0 hx 5 (by decide) _))
  · exact (c6 _ _ _).trans (plain_cast (slab_load harg0 hx 6 (by decide) _))
  · exact (c7 _ _ _).trans (plain_cast (slab_load harg0 hx 7 (by decide) _))

theorem s0 : Full (kernelRun1_A.sl.HS0_24 c arg0 harg0 arg1 harg1 arg2 harg2 arg7 x0 x1 x2) (fun b => img (l1 arg1 harg1 arg2 harg2 x1 x2 p b)) := by
  have h := s1 c arg0 harg0 arg1 harg1 arg2 harg2 x0 x1 x2 hx
  refine full_of (pads_of ?_) _ ?_ ?_ ?_ ?_ ?_ ?_ ?_ ?_
  · intro n x
    fin_cases n <;> exact zero_bits
  · exact (d0 _ _ _ _).trans (skip_cast (slab_read (b := 0) arg7.view h.1 (h.2 0 (by decide)) _) (img_load harg0 hx 0 (by decide) _))
  · exact (d1 _ _ _ _).trans (skip_cast (slab_read (b := 1) arg7.view h.1 (h.2 1 (by decide)) _) (img_load harg0 hx 1 (by decide) _))
  · exact (d2 _ _ _ _).trans (skip_cast (slab_read (b := 2) arg7.view h.1 (h.2 2 (by decide)) _) (img_load harg0 hx 2 (by decide) _))
  · exact (d3 _ _ _ _).trans (skip_cast (slab_read (b := 3) arg7.view h.1 (h.2 3 (by decide)) _) (img_load harg0 hx 3 (by decide) _))
  · exact (d4 _ _ _ _).trans (skip_cast (slab_read (b := 4) arg7.view h.1 (h.2 4 (by decide)) _) (img_load harg0 hx 4 (by decide) _))
  · exact (d5 _ _ _ _).trans (skip_cast (slab_read (b := 5) arg7.view h.1 (h.2 5 (by decide)) _) (img_load harg0 hx 5 (by decide) _))
  · exact (d6 _ _ _ _).trans (skip_cast (slab_read (b := 6) arg7.view h.1 (h.2 6 (by decide)) _) (img_load harg0 hx 6 (by decide) _))
  · exact (d7 _ _ _ _).trans (skip_cast (slab_read (b := 7) arg7.view h.1 (h.2 7 (by decide)) _) (img_load harg0 hx 7 (by decide) _))

theorem s2 : Full (kernelRun1_A.sl.HS1_32 c arg0 harg0 arg1 harg1 arg2 harg2 arg3 harg3 arg4 harg4 arg6 arg7 x0 x1 x2 x3 x4) (fun b => img (m2 arg1 harg1 arg2 harg2 arg3 harg3 arg4 harg4 x1 x2 x3 x4 p b)) := by
  have h1 := s1 c arg0 harg0 arg1 harg1 arg2 harg2 x0 x1 x2 hx
  have h := s0 c arg0 harg0 arg1 harg1 arg2 harg2 arg7 x0 x1 x2 hx
  refine full_of h1.1 _ ?_ ?_ ?_ ?_ ?_ ?_ ?_ ?_
  · exact (e0 _ _ _).trans (plain_bare (slab_read (b := 0) arg6.view h.1 (h.2 0 (by decide)) _))
  · exact (e1 _ _ _).trans (plain_bare (slab_read (b := 1) arg6.view h.1 (h.2 1 (by decide)) _))
  · exact (e2 _ _ _).trans (plain_bare (slab_read (b := 2) arg6.view h.1 (h.2 2 (by decide)) _))
  · exact (e3 _ _ _).trans (plain_bare (slab_read (b := 3) arg6.view h.1 (h.2 3 (by decide)) _))
  · exact (e4 _ _ _).trans (plain_bare (slab_read (b := 4) arg6.view h.1 (h.2 4 (by decide)) _))
  · exact (e5 _ _ _).trans (plain_bare (slab_read (b := 5) arg6.view h.1 (h.2 5 (by decide)) _))
  · exact (e6 _ _ _).trans (plain_bare (slab_read (b := 6) arg6.view h.1 (h.2 6 (by decide)) _))
  · exact (e7 _ _ _).trans (plain_bare (slab_read (b := 7) arg6.view h.1 (h.2 7 (by decide)) _))

theorem out5 (b : Fin 8) : Placed (kernelRun1_A c arg0 harg0 arg1 harg1 arg2 harg2 arg3 harg3 arg4 harg4 arg5 harg5 arg6 harg6 arg7 harg7 x0 x1 x2 x3 x4).1 b (l2 arg1 harg1 arg2 harg2 arg3 harg3 arg4 harg4 x1 x2 x3 x4 p b.val) := by
  have h := s2 c arg0 harg0 arg1 harg1 arg2 harg2 arg3 harg3 arg4 harg4 arg6 arg7 x0 x1 x2 x3 x4 hx
  have h0 := s0 c arg0 harg0 arg1 harg1 arg2 harg2 arg7 x0 x1 x2 hx
  refine placed _ ?_ ?_ ?_ ?_ ?_ ?_ ?_ ?_ b
  · exact (congrArg (Holds · _) (f0 _ _ _ _)).mpr (holds_skip (slab_read (b := 0) arg7.view h.1 (h.2 0 (by decide)) _) (img_read (b := 0) arg6.view (h0.2 0 (by decide)) _))
  · exact (congrArg (Holds · _) (f1 _ _ _ _)).mpr (holds_skip (slab_read (b := 1) arg7.view h.1 (h.2 1 (by decide)) _) (img_read (b := 1) arg6.view (h0.2 1 (by decide)) _))
  · exact (congrArg (Holds · _) (f2 _ _ _ _)).mpr (holds_skip (slab_read (b := 2) arg7.view h.1 (h.2 2 (by decide)) _) (img_read (b := 2) arg6.view (h0.2 2 (by decide)) _))
  · exact (congrArg (Holds · _) (f3 _ _ _ _)).mpr (holds_skip (slab_read (b := 3) arg7.view h.1 (h.2 3 (by decide)) _) (img_read (b := 3) arg6.view (h0.2 3 (by decide)) _))
  · exact (congrArg (Holds · _) (f4 _ _ _ _)).mpr (holds_skip (slab_read (b := 4) arg7.view h.1 (h.2 4 (by decide)) _) (img_read (b := 4) arg6.view (h0.2 4 (by decide)) _))
  · exact (congrArg (Holds · _) (f5 _ _ _ _)).mpr (holds_skip (slab_read (b := 5) arg7.view h.1 (h.2 5 (by decide)) _) (img_read (b := 5) arg6.view (h0.2 5 (by decide)) _))
  · exact (congrArg (Holds · _) (f6 _ _ _ _)).mpr (holds_skip (slab_read (b := 6) arg7.view h.1 (h.2 6 (by decide)) _) (img_read (b := 6) arg6.view (h0.2 6 (by decide)) _))
  · exact (congrArg (Holds · _) (f7 _ _ _ _)).mpr (holds_skip (slab_read (b := 7) arg7.view h.1 (h.2 7 (by decide)) _) (img_read (b := 7) arg6.view (h0.2 7 (by decide)) _))

end Cert.Stage1

end
-- ==== Proof.Regions.lean ====
/- What the two kernels leave in their output arrays, in the arrays they were given. -/
module

public import proofs.«01_k».proof.Proof.Stage0
public import proofs.«01_k».proof.Proof.Stage1
public import Idealize.ShloMosaic.Lib.Pipeline.ValueKit

@[expose] public section

set_option maxRecDepth 16384

noncomputable section

namespace Cert.Regions

open Idealize.ShloMosaic Cert.KernelIdeal Cert.KernelIdeal.Gen Cert.Store Cert.Spec Cert.Conv
open Idealize.ShloMosaic.TcCoe

variable (V : (c : Dev nD) → (b : Ref sig .tc) → Buf (Elt Ideal) ((c : Thread nD τ).loc b)) (c : Dev nD)

/-! ## Each window's one block is its whole array -/

/-- The one point of either grid. -/
abbrev t0 : Fin cfg0.N := ⟨0, by decide⟩
abbrev t1 : Fin cfg1.N := ⟨0, by decide⟩

theorem in0_0 : iblk0 V c 0 t0 = V c main_v0 := by
  funext y
  exact congrArg (V c main_v0) (funext fun a => Fin.ext (Pipeline.Window.rect_emb_val_of_index_zero _ _ _ rfl _))

theorem in0_1 : iblk0 V c 1 t0 = V c main_v2 := by
  funext y
  exact congrArg (V c main_v2) (funext fun a => Fin.ext (Pipeline.Window.rect_emb_val_of_index_zero _ _ _ rfl _))

theorem in0_2 : iblk0 V c 2 t0 = V c main_v4 := by
  funext y
  exact congrArg (V c main_v4) (funext fun a => Fin.ext (Pipeline.Window.rect_emb_val_of_index_zero _ _ _ rfl _))

theorem in0_3 : iblk0 V c 3 t0 = V c main_v5 := by
  funext y
  exact congrArg (V c main_v5) (funext fun a => Fin.ext (Pipeline.Window.rect_emb_val_of_index_zero _ _ _ rfl _))

theorem in0_4 : iblk0 V c 4 t0 = V c main_v6 := by
  funext y
  exact congrArg (V c main_v6) (funext fun a => Fin.ext (Pipeline.Window.rect_emb_val_of_index_zero _ _ _ rfl _))

theorem in0_5 : iblk0 V c 5 t0 = V c main_arg4 := by
  funext y
  exact congrArg (V c main_arg4) (funext fun a => Fin.ext (Pipeline.Window.rect_emb_val_of_index_zero _ _ _ rfl _))

theorem in0_6 : iblk0 V c 6 t0 = V c main_v11 := by
  funext y
  exact congrArg (V c main_v11) (funext fun a => Fin.ext (Pipeline.Window.rect_emb_val_of_index_zero _ _ _ rfl _))

theorem in0_7 : iblk0 V c 7 t0 = V c main_v23 := by
  funext y
  exact congrArg (V c main_v23) (funext fun a => Fin.ext (Pipeline.Window.rect_emb_val_of_index_zero _ _ _ rfl _))

theorem in1_0 : iblk1 V c 0 t1 = V c main_v24 := by
  funext y
  exact congrArg (V c main_v24) (funext fun a => Fin.ext (Pipeline.Window.rect_emb_val_of_index_zero _ _ _ rfl _))

theorem in1_1 : iblk1 V c 1 t1 = V c main_v16 := by
  funext y
  exact congrArg (V c main_v16) (funext fun a => Fin.ext (Pipeline.Window.rect_emb_val_of_index_zero _ _ _ rfl _))

theorem in1_2 : iblk1 V c 2 t1 = V c main_v26 := by
  funext y
  exact congrArg (V c main_v26) (funext fun a => Fin.ext (Pipeline.Window.rect_emb_val_of_index_zero _ _ _ rfl _))

theorem in1_3 : iblk1 V c 3 t1 = V c main_v21 := by
  funext y
  exact congrArg (V c main_v21) (funext fun a => Fin.ext (Pipeline.Window.rect_emb_val_of_index_zero _ _ _ rfl _))

theorem in1_4 : iblk1 V c 4 t1 = V c main_v28 := by
  funext y
  exact congrArg (V c main_v28) (funext fun a => Fin.ext (Pipeline.Window.rect_emb_val_of_index_zero _ _ _ rfl _))

theorem arr0 : (dat0 V c).arrAt 8 cfg0.N = outsAt0 V c t0 := by
  refine (dat0 V c).arrAt_eq_of_after_last 8 t0 (by decide +kernel) _ fun j => ?_
  blk_simp
  rw [after0_8]

theorem arr1 : (dat1 V c).arrAt 5 cfg1.N = outsAt1 V c t1 := by
  refine (dat1 V c).arrAt_eq_of_after_last 5 t1 (by decide +kernel) _ fun j => ?_
  blk_simp
  rw [after1_5]

/-! ## The weights and biases as loaded -/

/-- A block's weights and biases: those of its convolution `k`. -/
def wts (w : Vec Ideal S2x3456x384 .bf16) (k : Fin 2) : Wt := fun t i o => w (ix3 k (finProdFinEquiv (t, i)) o)
def bss (b : Vec Ideal S2x384 .f32) (k : Fin 2) (o : Fin 384) : EReal := b (ix2 k o)

theorem wk_load (m : Memref sig .tc .vmem S2x3456x384 .bf16) (h : m.IsWhole) (w : Vec Ideal S2x3456x384 .bf16) (k : Fin 2)
    (inb : ∀ a, (![k.val, 0, 0] : Fin 3 → ℕ) a + S1x3456x384.size a ≤ S2x3456x384.size a) :
    wk (View.readAt (Elt Ideal) m.view (Rect.unit (s := S2x3456x384) ![k.val, 0, 0] S1x3456x384.size inb).toLoadRect (h.unread w))
      = wts w k := by
  funext t i o
  refine (h.readAt_unread w _ _).trans ?_
  refine congrArg w (funext fun a => Fin.ext ((Rect.idx_unit_val _ _ inb _ a).trans ?_))
  fin_cases a
  · rfl
  · exact Nat.zero_add _
  · exact Nat.zero_add _

theorem bk_load (m : Memref sig .tc .vmem S2x384 .f32) (h : m.IsWhole) (b : Vec Ideal S2x384 .f32) (k : Fin 2)
    (inb : ∀ a, (![k.val, 0] : Fin 2 → ℕ) a + S1x384.size a ≤ S2x384.size a) :
    bk (k0_pay34 (View.readAt (Elt Ideal) m.view (Rect.unit (s := S2x384) ![k.val, 0] S1x384.size inb).toLoadRect (h.unread b)))
      = bss b k := by
  funext o
  refine (Cert.Chunks.bias_eq _ o).trans ((h.readAt_unread b _ _).trans ?_)
  refine congrArg b (funext fun a => Fin.ext ((Rect.idx_unit_val _ _ inb _ a).trans ?_))
  fin_cases a
  · rfl
  · exact Nat.zero_add _

/-! ## The output arrays -/

theorem Whole.of_canon {L : Pieces} {p : ℕ → Img} (h : Full L p) {a : Vec Ideal S5120x384 .bf16} (ha : ∀ i, a i = View.canon L i) : Whole a p :=
  (funext ha : a = View.canon L) ▸ h.whole

/-- The first kernel: the prior's features through the first block. -/
theorem first : Whole (outsAt0 V c t0) (fun b => img (layer
    (Cert.KPrior.feat (V c main_v0) (V c main_v2) (V c main_v4) (V c main_v5) (V c main_v6) (V c main_arg4) (Fin.ofNat 8 b))
    (wts (V c main_v11)) (bss (V c main_v23)))) := by
  unfold outsAt0 out0_A_8
  rw [in0_0, in0_1, in0_2, in0_3, in0_4, in0_5, in0_6, in0_7]
  have h := Cert.Stage0.out8 c (ms0_0 t0) (hs0_0 t0) (ms0_1 t0) (hs0_1 t0) (ms0_2 t0) (hs0_2 t0) (ms0_3 t0) (hs0_3 t0) (ms0_4 t0) (hs0_4 t0)
    (ms0_5 t0) (hs0_5 t0) (ms0_6 t0) (hs0_6 t0) (ms0_7 t0) (hs0_7 t0) (ms0_8 t0) (hs0_8 t0) scM0_0 (Memref.isWhole_whole _)
    (V c main_v0) (V c main_v2) (V c main_v4) (V c main_v5) (V c main_v6) (V c main_arg4) (V c main_v11) (V c main_v23)
  have e : ∀ b, cres (Cert.Stage0.mid (ms0_6 t0) (hs0_6 t0) (ms0_7 t0) (hs0_7 t0) (V c main_v0) (V c main_v2) (V c main_v4) (V c main_v5)
        (V c main_v6) (V c main_arg4) (V c main_v11) (V c main_v23) b)
      (Cert.Stage0.start (V c main_v0) (V c main_v2) (V c main_v4) (V c main_v5) (V c main_v6) (V c main_arg4) b)
      (wk (Cert.Stage0.w1 (ms0_6 t0) (hs0_6 t0) (V c main_v11))) (bk (Cert.Stage0.β1 (ms0_7 t0) (hs0_7 t0) (V c main_v23)))
      = layer (Cert.KPrior.feat (V c main_v0) (V c main_v2) (V c main_v4) (V c main_v5) (V c main_v6) (V c main_arg4) (Fin.ofNat 8 b))
        (wts (V c main_v11)) (bss (V c main_v23)) := fun b => by
    unfold Cert.Stage0.mid layer
    rw [← wk_load (ms0_6 t0) (hs0_6 t0) _ 0 inb_S2x3456x384_S1x3456x384_0_0_0, ← wk_load (ms0_6 t0) (hs0_6 t0) _ 1 inb_S2x3456x384_S1x3456x384_1_0_0,
      ← bk_load (ms0_7 t0) (hs0_7 t0) _ 0 inb_S2x384_S1x384_0_0, ← bk_load (ms0_7 t0) (hs0_7 t0) _ 1 inb_S2x384_S1x384_1_0]
    rfl
  simp only [e] at h
  exact Whole.of_canon h fun i => View.read_writes_junk_apply_eq_canon _ _ _

/-- The second kernel: two more blocks of each image. -/
theorem second {p : ℕ → Im} (hx : Whole (V c main_v24) (fun b => img (p b))) (b : Fin 8) (y x : Fin 24) (o : Fin 384) :
    outsAt1 V c t1 (ix4 b y x o)
      = layer (layer (p b.val) (wts (V c main_v16)) (bss (V c main_v26))) (wts (V c main_v21)) (bss (V c main_v28)) ⟨24 * y.val + x.val, by omega⟩ o := by
  unfold outsAt1 out1_A_5
  rw [in1_0, in1_1, in1_2, in1_3, in1_4, View.read_writes_junk_apply_eq_canon]
  refine (Cert.Stage1.out5 c (ms1_0 t1) (hs1_0 t1) (ms1_1 t1) (hs1_1 t1) (ms1_2 t1) (hs1_2 t1) (ms1_3 t1) (hs1_3 t1) (ms1_4 t1) (hs1_4 t1)
    (ms1_5 t1) (hs1_5 t1) scM1_0 (Memref.isWhole_whole _) scM1_1 (Memref.isWhole_whole _)
    (V c main_v24) (V c main_v16) (V c main_v26) (V c main_v21) (V c main_v28) hx b y x o).trans ?_
  refine congrFun (congrFun ?_ _) _
  unfold Cert.Stage1.l2 Cert.Stage1.m2 Cert.Stage1.l1 Cert.Stage1.m1 layer
  rw [← wk_load (ms1_1 t1) (hs1_1 t1) _ 0 inb_S2x3456x384_S1x3456x384_0_0_0, ← wk_load (ms1_1 t1) (hs1_1 t1) _ 1 inb_S2x3456x384_S1x3456x384_1_0_0,
    ← wk_load (ms1_3 t1) (hs1_3 t1) _ 0 inb_S2x3456x384_S1x3456x384_0_0_0, ← wk_load (ms1_3 t1) (hs1_3 t1) _ 1 inb_S2x3456x384_S1x3456x384_1_0_0,
    ← bk_load (ms1_2 t1) (hs1_2 t1) _ 0 inb_S2x384_S1x384_0_0, ← bk_load (ms1_2 t1) (hs1_2 t1) _ 1 inb_S2x384_S1x384_1_0,
    ← bk_load (ms1_4 t1) (hs1_4 t1) _ 0 inb_S2x384_S1x384_0_0, ← bk_load (ms1_4 t1) (hs1_4 t1) _ 1 inb_S2x384_S1x384_1_0]
  rfl

end Cert.Regions

end
-- ==== Proof.Host.lean ====
/- What the host's lines around the two kernels leave: each array a kernel reads, entry by entry, in the program's arguments. -/
module

public import proofs.«01_k».proof.Proof.Gen.KernelIdeal.Launch
public import proofs.«01_k».proof.Proof.Conv

@[expose] public section

set_option maxRecDepth 16384

noncomputable section

namespace Cert.Host

open Idealize.ShloMosaic Cert.KernelIdeal Cert.KernelIdeal.Gen
open Idealize.ShloMosaic.TcCoe

variable (V : Valuation τ sig (Elt Ideal))

/-- The array the host's lines leave at `r`. -/
abbrev h0 (r : Ref sig .tc) := StableHlo.after (hostOps0 (F := Ideal)) V (Proc.devRef .tc r)
abbrev h1 (r : Ref sig .tc) := StableHlo.after (hostOps1 (F := Ideal)) V (Proc.devRef .tc r)
abbrev h2 (r : Ref sig .tc) := StableHlo.after (hostOps2 (F := Ideal)) V (Proc.devRef .tc r)

/-! ## The first kernel's arrays -/

theorem v0 (b : Fin 8) (y x : Fin 24) (i : Fin 384) :
    (h0 V main_v0 : FVec Ideal S8x24x24x384 .f32) (ix4 b y x i) = (V (Proc.devRef .tc main_arg0) : FVec Ideal S8x384x24x24 .f32) (ix4 b i y x) := by
  unfold h0
  after_results
  pointwise

theorem v2 (i o : Fin 384) :
    (h0 V main_v2 : FVec Ideal S384x384 .f32) (ix2 i o) = (V (Proc.devRef .tc main_arg1) : FVec Ideal S384x384x1x1 .f32) (ix4 o i 0 0) := by
  unfold h0
  after_results
  pointwise

theorem v4 (o : Fin 384) (k : Fin 20) :
    (h0 V main_v4 : FVec Ideal S384x20 .f32) (ix2 o k) = (V (Proc.devRef .tc main_arg2) : FVec Ideal S20x384x1x1 .f32) (ix4 k o 0 0) := by
  unfold h0
  after_results
  pointwise

theorem v5 (k : Fin 20) :
    (h0 V main_v5 : FVec Ideal S1x20 .f32) (ix2 0 k) = (V (Proc.devRef .tc main_arg3) : FVec Ideal S20 .f32) (ix1 k) := by
  unfold h0
  after_results
  pointwise

theorem v6 (b : Fin 8) (k : Fin 20) :
    (h0 V main_v6 : FVec Ideal S8x20 .f32) (ix2 b k) = (V (Proc.devRef .tc main_arg7) : FVec Ideal S8x20x1x1 .f32) (ix4 b k 0 0) := by
  unfold h0
  after_results
  pointwise

/-! ## The weights: taps and input channels on one axis -/

theorem row_mod (t : Fin 9) (i : Fin 384) : (finProdFinEquiv (t, i)).val % 384 = i.val := by
  show (i.val + 384 * t.val) % 384 = i.val
  omega

theorem row_div (t : Fin 9) (i : Fin 384) : (finProdFinEquiv (t, i)).val / 1152 = t.val / 3 := by
  show (i.val + 384 * t.val) / 1152 = t.val / 3
  omega

theorem row_tap (t : Fin 9) (i : Fin 384) : (finProdFinEquiv (t, i)).val / 384 % 3 = t.val % 3 := by
  show (i.val + 384 * t.val) / 384 % 3 = t.val % 3
  omega

theorem tap_eq {l : Fin 3} {k : Fin 2} {o i i' : Fin 384} {y y' x x' : Fin 3} (hi : i.val = i'.val) (hy : y.val = y'.val)
    (hx : x.val = x'.val) :
    (ix6 l k o i y x : S3x2x384x384x3x3.Idx) = ix6 l k o i' y' x' := by
  rw [Fin.ext hi, Fin.ext hy, Fin.ext hx]

theorem v11 (k : Fin 2) (t : Fin 9) (i o : Fin 384) :
    (h0 V main_v11 : FVec Ideal S2x3456x384 .bf16) (ix3 k (finProdFinEquiv (t, i)) o)
      = (V (Proc.devRef .tc main_arg5) : FVec Ideal S3x2x384x384x3x3 .f32)
        (ix6 0 k o i ⟨t.val / 3, by omega⟩ ⟨t.val % 3, by omega⟩) := by
  unfold h0
  after_results
  pointwise
  exact congrArg _ (tap_eq (row_mod t i) (row_div t i) (row_tap t i))

theorem v16 (k : Fin 2) (t : Fin 9) (i o : Fin 384) :
    (h0 V main_v16 : FVec Ideal S2x3456x384 .bf16) (ix3 k (finProdFinEquiv (t, i)) o)
      = (V (Proc.devRef .tc main_arg5) : FVec Ideal S3x2x384x384x3x3 .f32)
        (ix6 1 k o i ⟨t.val / 3, by omega⟩ ⟨t.val % 3, by omega⟩) := by
  unfold h0
  after_results
  pointwise
  exact congrArg _ (tap_eq (row_mod t i) (row_div t i) (row_tap t i))

theorem v21 (k : Fin 2) (t : Fin 9) (i o : Fin 384) :
    (h0 V main_v21 : FVec Ideal S2x3456x384 .bf16) (ix3 k (finProdFinEquiv (t, i)) o)
      = (V (Proc.devRef .tc main_arg5) : FVec Ideal S3x2x384x384x3x3 .f32)
        (ix6 2 k o i ⟨t.val / 3, by omega⟩ ⟨t.val % 3, by omega⟩) := by
  unfold h0
  after_results
  pointwise
  exact congrArg _ (tap_eq (row_mod t i) (row_div t i) (row_tap t i))

/-! ## The biases -/

theorem v23 (k : Fin 2) (o : Fin 384) :
    (h0 V main_v23 : FVec Ideal S2x384 .f32) (ix2 k o) = (V (Proc.devRef .tc main_arg6) : FVec Ideal S3x2x384 .f32) (ix3 0 k o) := by
  unfold h0
  after_results
  pointwise

theorem v26 (k : Fin 2) (o : Fin 384) :
    (h1 V main_v26 : FVec Ideal S2x384 .f32) (ix2 k o) = (V (Proc.devRef .tc main_arg6) : FVec Ideal S3x2x384 .f32) (ix3 1 k o) := by
  unfold h1
  after_results
  pointwise

theorem v28 (k : Fin 2) (o : Fin 384) :
    (h1 V main_v28 : FVec Ideal S2x384 .f32) (ix2 k o) = (V (Proc.devRef .tc main_arg6) : FVec Ideal S3x2x384 .f32) (ix3 2 k o) := by
  unfold h1
  after_results
  pointwise

/-! ## The result -/

theorem v30 (b : Fin 8) (o : Fin 384) (y x : Fin 24) :
    (h2 V main_v30 : FVec Ideal S8x384x24x24 .f32) (ix4 b o y x) = (V (Proc.devRef .tc main_v29) : FVec Ideal S8x24x24x384 .f32) (ix4 b y x o) := by
  unfold h2
  after_results
  pointwise

end Cert.Host

end
-- ==== Proof.RefConv.lean ====
/- What the reference's convolution and residual block compute, image by image. -/
module

public import proofs.«01_k».proof.Proof.RefRun
public import proofs.«01_k».proof.Proof.Spec

@[expose] public section

set_option maxRecDepth 16384
set_option maxHeartbeats 2000000

noncomputable section

namespace Cert.RefConv

open Idealize.ShloMosaic Idealize.ShloMosaic.StableHlo Cert.ReferenceIdeal Cert.Line Cert.RefRun Cert.Spec
open Cert.ReferenceIdeal.Facts Cert.ReferenceIdeal.Facts₀

variable [Facts] {U : Valuation τ sig (Elt Ideal)}

/-- The arrays of a call. -/
abbrev Arr : Type := FVec Ideal S8x384x24x24 .f32

/-- Image `b` of an array. -/
def im (X : Arr) (b : Fin 8) : Im := fun r i => X (ix4 b i ⟨r.val / 24, by omega⟩ ⟨r.val % 24, by omega⟩)

/-- The weights by taps. -/
def wt (W : FVec Ideal S384x384x3x3 .f32) : Wt := fun t i o => W (ix4 o i ⟨t.val / 3, by omega⟩ ⟨t.val % 3, by omega⟩)

/-- The framed array. -/
def framed (X : Arr) : FVec Ideal S8x384x26x26 .f32 :=
  pad S8x384x26x26 ![0, 0, 1, 1] ![0, 0, 1, 1] ![0, 0, 0, 0] X (sitofp .f32 (constantI S_ 32 0#32))
    pads_S8x384x24x24_S8x384x26x26_000_000_110_110 h_S_

theorem sitofp_zero : (FloatOps.sitofp FTy.f32 0#32 : Ideal .f32) = (0 : EReal) := by
  simp [FloatOps.sitofp]

theorem framed_apply (X : Arr) (b : Fin 8) (i : Fin 384) (y x : Fin 26) :
    framed X (ix4 b i y x) = px (im X b) y.val x.val i := by
  pointwise [framed]
  unfold px im
  by_cases h : 1 ≤ y.val ∧ y.val ≤ 24 ∧ 1 ≤ x.val ∧ x.val ≤ 24
  · rw [dif_pos (by omega), dif_pos h]
    refine congrArg X (congrArg₂ (ix4 b i) (Fin.ext ?_) (Fin.ext ?_)) <;> dsimp only <;> omega
  · rw [dif_neg (by omega), dif_neg h]
    exact sitofp_zero

/-- One tap's product. -/
def tap (X : Arr) (W : FVec Ideal S384x384x3x3 .f32) (off : Fin 4 → ℕ) (hx : S8x384x26x26.Slices off S8x384x24x24)
    (hw : S384x384x3x3.Slices off S384x384x1x1) : Arr :=
  transpose S8x384x24x24 [1, 0, 2, 3] (Host.dotGeneral dot_S384x384_S8x384x24x24_S384x8x24x24_1_1_0_023_n_n none
    (shapeCast S384x384 (extractStridedSlice S384x384x1x1 off W hw) shapeCasts_S384x384x1x1_S384x384 : FVec Ideal S384x384 .f32)
    (extractStridedSlice S8x384x24x24 off (framed X) hx) : FVec Ideal S384x8x24x24 .f32) transposes_S384x8x24x24_S8x384x24x24_1_0_2_3

theorem tap_apply (X : Arr) (W : FVec Ideal S384x384x3x3 .f32) (t : Fin 9) (hx) (hw) (b : Fin 8) (o : Fin 384) (h w : Fin 24) :
    tap X W ![0, 0, t.val / 3, t.val % 3] hx hw (ix4 b o h w)
      = ∑ i : Fin 384, px (im X b) (h.val + t.val / 3) (w.val + t.val % 3) i * wt W t i o := by
  pointwise [tap]
  refine Finset.sum_congr rfl fun i _ => ?_
  rw [framed_apply, mul_comm]
  unfold wt
  dsimp only
  rw [Nat.add_comm h.val, Nat.add_comm w.val]

variable {x : TRef sig ⟨S8x384x24x24, .f32⟩}

theorem pad_val {c : TRef sig ⟨S_, .i32⟩} {φ : fn_pad.Bufs} (h : Holds U (padOps (F := Ideal) x c φ).1)
    (hc : val U c = constantI S_ 32 0#32) : val U φ.v1 = framed (val U x) := by
  simp only [padOps, holds_cons, holds_nil, and_true, un_holds, bin_holds, toBuf_eq, ofBuf_eq] at h
  obtain ⟨h0, h1⟩ := h
  rw [h1, h0, hc]
  rfl

theorem relu_val {φ : fn_relu.Bufs} (h : Holds U (reluOps (F := Ideal) x φ).1) (j) :
    val U φ.v1 j = max (val U x j) (0 : EReal) := by
  simp only [reluOps, holds_cons, holds_nil, and_true, nul_holds, un_holds, bin_holds, toBuf_eq, ofBuf_eq] at h
  obtain ⟨h0, h1, h2⟩ := h
  rw [h2, h1, h0]
  pointwise

theorem tap_val {X : Arr} {W : FVec Ideal S384x384x3x3 .f32} {off : Fin 4 → ℕ} {s : TRef sig ⟨S8x384x24x24, .f32⟩}
    {ws : TRef sig ⟨S384x384x1x1, .f32⟩} {wr : TRef sig ⟨S384x384, .f32⟩} {d : TRef sig ⟨S384x8x24x24, .f32⟩}
    {tr : TRef sig ⟨S8x384x24x24, .f32⟩} {hx hw he hn ha hy}
    (h1 : val U s = extractStridedSlice S8x384x24x24 off (framed X) hx)
    (h2 : val U ws = extractStridedSlice S384x384x1x1 off W hw)
    (h3 : (Op.resh (τ := τ) ws.ref wr.ref he hn ha hy).Holds U)
    (h4 : val U d = (Host.dotGeneral dot_S384x384_S8x384x24x24_S384x8x24x24_1_1_0_023_n_n none (φ₁ := .f32) (φ₂ := .f32)
      (val U wr : FVec Ideal S384x384 .f32) (val U s : Arr) : FVec Ideal S384x8x24x24 .f32))
    (h5 : val U tr = transpose S8x384x24x24 [1, 0, 2, 3] (val U d : FVec Ideal S384x8x24x24 .f32)
      transposes_S384x8x24x24_S8x384x24x24_1_0_2_3) : val U tr = tap X W off hx hw := by
  rw [h5, h4, h1, val_resh shapeCasts_S384x384x1x1_S384x384 h3, h2]
  rfl

theorem sum_nine (f : Fin 9 → EReal) : ∑ t, f t = 0 + f 0 + f 1 + f 2 + f 3 + f 4 + f 5 + f 6 + f 7 + f 8 := by
  simp only [Fin.sum_univ_castSucc, Finset.univ_eq_empty, Finset.sum_empty]
  rfl

theorem conv_val {w : TRef sig ⟨S384x384x3x3, .f32⟩} {b : TRef sig ⟨S384, .f32⟩} {φ : fn_conv3x3.Bufs}
    (h : Holds U (convOps (F := Ideal) x w b φ).1) (n : Fin 8) (o : Fin 384) (r : Fin 576) :
    im (val U φ.v58) n r o = conv (im (val U x) n) (wt (val U w)) (fun o => val U b (ix1 o)) r o := by
  simp only [convOps, convOps0, convOps1, holds_append, holds_cons, holds_nil, and_true, nul_holds, un_holds, bin_holds,
    toBuf_eq, ofBuf_eq, and_assoc] at h
  obtain ⟨hc, hp, hcst, h1, s0, w0, r0, d0, t0, a0, s1, w1, r1, d1, t1, a1, s2, w2, r2, d2, t2, a2, s3, w3, r3, d3, t3, a3, s4, w4, r4, d4, t4, a4, s5, w5, r5, d5, t5, a5, s6, w6, r6, d6, t6, a6, s7, w7, r7, d7, t7, a7, s8, w8, r8, d8, t8, a8, b56, b57, b58⟩ := h
  have hp := pad_val hp hc
  rw [hp] at s0 s1 s2 s3 s4 s5 s6 s7 s8
  have t0 := tap_val s0 w0 r0 d0 t0
  have t1 := tap_val s1 w1 r1 d1 t1
  have t2 := tap_val s2 w2 r2 d2 t2
  have t3 := tap_val s3 w3 r3 d3 t3
  have t4 := tap_val s4 w4 r4 d4 t4
  have t5 := tap_val s5 w5 r5 d5 t5
  have t6 := tap_val s6 w6 r6 d6 t6
  have t7 := tap_val s7 w7 r7 d7 t7
  have t8 := tap_val s8 w8 r8 d8 t8
  have z : val U φ.v1 (ix4 n o ⟨r.val / 24, by omega⟩ ⟨r.val % 24, by omega⟩) = (0 : EReal) := by
    rw [h1, hcst]; pointwise
  have bb : val U φ.v57 (ix4 n o ⟨r.val / 24, by omega⟩ ⟨r.val % 24, by omega⟩) = val U b (ix1 o) := by
    rw [b57, b56]; pointwise
  have T := tap_apply (val U x) (val U w) (b := n) (o := o) (h := ⟨r.val / 24, by omega⟩) (w := ⟨r.val % 24, by omega⟩)
  unfold im conv
  rw [b58, a8, a7, a6, a5, a4, a3, a2, a1, a0, t0, t1, t2, t3, t4, t5, t6, t7, t8]
  rw [sum_nine]
  refine congrArg₂ (HAdd.hAdd : EReal → EReal → EReal) ?_ bb
  refine congrArg₂ (HAdd.hAdd : EReal → EReal → EReal) ?_ (T 8 _ _)
  refine congrArg₂ (HAdd.hAdd : EReal → EReal → EReal) ?_ (T 7 _ _)
  refine congrArg₂ (HAdd.hAdd : EReal → EReal → EReal) ?_ (T 6 _ _)
  refine congrArg₂ (HAdd.hAdd : EReal → EReal → EReal) ?_ (T 5 _ _)
  refine congrArg₂ (HAdd.hAdd : EReal → EReal → EReal) ?_ (T 4 _ _)
  refine congrArg₂ (HAdd.hAdd : EReal → EReal → EReal) ?_ (T 3 _ _)
  refine congrArg₂ (HAdd.hAdd : EReal → EReal → EReal) ?_ (T 2 _ _)
  refine congrArg₂ (HAdd.hAdd : EReal → EReal → EReal) ?_ (T 1 _ _)
  refine congrArg₂ (HAdd.hAdd : EReal → EReal → EReal) ?_ (T 0 _ _)
  exact z

end Cert.RefConv

end
-- ==== Proof.RefMain.lean ====
/- The reference's output: its three residual blocks, and the features they start from. -/
module

public import proofs.«01_k».proof.Proof.RefConv
public import proofs.«01_k».proof.Proof.Prior

@[expose] public section

set_option maxRecDepth 16384
set_option maxHeartbeats 2000000

noncomputable section

namespace Cert.RefMain

open Idealize.ShloMosaic Idealize.ShloMosaic.StableHlo Cert.ReferenceIdeal Cert.Line Cert.RefRun Cert.Spec Cert.Prior Cert.RefConv
open Cert.ReferenceIdeal.Facts Cert.ReferenceIdeal.Facts₀

variable [Facts] {U : Valuation τ sig (Elt Ideal)}

/-- The weights of a block's two convolutions. -/
def wt2 (W : FVec Ideal S2x384x384x3x3 .f32) (k : Fin 2) : Wt :=
  fun t i o => W (ix5 k o i ⟨t.val / 3, by omega⟩ ⟨t.val % 3, by omega⟩)

/-- Its biases. -/
def bs2 (B : FVec Ideal S2x384 .f32) (k : Fin 2) (o : Fin 384) : EReal := B (ix2 k o)

variable {x : TRef sig ⟨S8x384x24x24, .f32⟩} {w : TRef sig ⟨S2x384x384x3x3, .f32⟩} {b : TRef sig ⟨S2x384, .f32⟩}

theorem wt_val {s : TRef sig ⟨S1x384x384x3x3, .f32⟩} {y : TRef sig ⟨S384x384x3x3, .f32⟩} {he hn ha hy}
    (W : FVec Ideal S2x384x384x3x3 .f32) (k : Fin 2) {hs}
    (h1 : val U s = extractStridedSlice S1x384x384x3x3 ![k.val, 0, 0, 0, 0] W hs)
    (h2 : (Op.resh (τ := τ) s.ref y.ref he hn ha hy).Holds U) : wt (val U y) = wt2 W k := by
  funext t i o
  rw [val_resh shapeCasts_S1x384x384x3x3_S384x384x3x3 h2, h1]
  unfold wt wt2
  pointwise

theorem bs_val {s : TRef sig ⟨S1x384, .f32⟩} {y : TRef sig ⟨S384, .f32⟩} {he hn ha hy}
    (B : FVec Ideal S2x384 .f32) (k : Fin 2) {hs} (h1 : val U s = extractStridedSlice S1x384 ![k.val, 0] B hs)
    (h2 : (Op.resh (τ := τ) s.ref y.ref he hn ha hy).Holds U) : (fun o : Fin 384 => val U y (ix1 o)) = bs2 B k := by
  funext o
  rw [val_resh shapeCasts_S1x384_S384 h2, h1]
  unfold bs2
  pointwise

theorem im_relu {φ : fn_relu.Bufs} (h : Holds U (reluOps (F := Ideal) x φ).1) (n : Fin 8) (r : Fin 576) (o : Fin 384) :
    im (val U φ.v1) n r o = max (im (val U x) n r o) 0 := relu_val h _

theorem residual_val {φ : fn_residual.Bufs} (h : Holds U (residualOps (F := Ideal) x w b φ).1) (n : Fin 8) :
    im (val U φ.call3.v1) n = layer (im (val U x) n) (wt2 (val U w)) (bs2 (val U b)) := by
  simp only [residualOps, holds_append, holds_cons, holds_nil, and_true, nul_holds, un_holds, bin_holds,
    toBuf_eq, ofBuf_eq, and_assoc] at h
  obtain ⟨w0, w1, b0, b1, c0, r0, w2, w3, b2, b3, c1, a, r1⟩ := h
  have e0 := conv_val c0 n
  rw [wt_val (val U w) 0 w0 w1, bs_val (val U b) 0 b0 b1] at e0
  have e1 := conv_val c1 n
  rw [wt_val (val U w) 1 w2 w3, bs_val (val U b) 1 b2 b3] at e1
  have f : im (val U φ.call1.v1) n = crelu (im (val U x) n) (wt2 (val U w) 0) (bs2 (val U b) 0) := by
    funext r o
    rw [im_relu r0, e0, crelu]
  funext r o
  rw [im_relu r1, a]
  show max (im (val U x) n r o + im (val U φ.call2.v58) n r o) 0 = _
  rw [e1, f, add_comm]
  rfl

/-- The weights and biases of a block among the three. -/
def wt3 (W : FVec Ideal S3x2x384x384x3x3 .f32) (l : Fin 3) (k : Fin 2) : Wt :=
  fun t i o => W (ix6 l k o i ⟨t.val / 3, by omega⟩ ⟨t.val % 3, by omega⟩)

def bs3 (B : FVec Ideal S3x2x384 .f32) (l : Fin 3) (k : Fin 2) (o : Fin 384) : EReal := B (ix3 l k o)

/-- The three blocks. -/
def blocks (f : Im) (W : FVec Ideal S3x2x384x384x3x3 .f32) (B : FVec Ideal S3x2x384 .f32) : Im :=
  layer (layer (layer f (wt3 W 0) (bs3 B 0)) (wt3 W 1) (bs3 B 1)) (wt3 W 2) (bs3 B 2)

theorem wt3_val {W : FVec Ideal S3x2x384x384x3x3 .f32} {a : TRef sig ⟨S1x2x384x384x3x3, .f32⟩}
    {y : TRef sig ⟨S2x384x384x3x3, .f32⟩} {he hn ha hy} (l : Fin 3) {hs}
    (h1 : val U a = extractStridedSlice S1x2x384x384x3x3 ![l.val, 0, 0, 0, 0, 0] W hs)
    (h2 : (Op.resh (τ := τ) a.ref y.ref he hn ha hy).Holds U) : wt2 (val U y) = wt3 W l := by
  funext k t i o
  rw [val_resh shapeCasts_S1x2x384x384x3x3_S2x384x384x3x3 h2, h1]
  unfold wt2 wt3
  pointwise

theorem bs3_val {B : FVec Ideal S3x2x384 .f32} {a : TRef sig ⟨S1x2x384, .f32⟩} {y : TRef sig ⟨S2x384, .f32⟩} {he hn ha hy}
    (l : Fin 3) {hs} (h1 : val U a = extractStridedSlice S1x2x384 ![l.val, 0, 0] B hs)
    (h2 : (Op.resh (τ := τ) a.ref y.ref he hn ha hy).Holds U) : bs2 (val U y) = bs3 B l := by
  funext k o
  rw [val_resh shapeCasts_S1x2x384_S2x384 h2, h1]
  unfold bs2 bs3
  pointwise

/-- A buffer of the device at the end. -/
abbrev at' (U : Valuation τ sig (Elt Ideal)) (r : Ref sig .tc) : r.ty.Contents (Elt Ideal) := U (Proc.devRef .tc r)

/-- The three residual blocks. -/
theorem blocks_val (d : Dev nD) (h : Holds U (mainOps (F := Ideal) d).1) (n : Fin 8) :
    im (at' U main_v55 : Arr) n = blocks (im (at' U main_v40 : Arr) n) (at' U main_arg5) (at' U main_arg6) := by
  simp only [mainOps, mainOps0, mainOps1, holds_append, holds_cons, holds_nil, and_true, nul_holds, un_holds, bin_holds,
    toBuf_eq, ofBuf_eq, and_assoc] at h
  obtain ⟨c0, v0, v1, c1, v2, v3, v4, v5, v6, v7, v8, c2, v9, v10, c3, v11, v12, v13, v14, v15, v16, v17, v18, v19, c4, v20, v21, c5, v22, c6,
    v23, v24, v25, v26, v27, v28, c7, v29, v30, v31, v32, am, oh, v35, v36, v37, v38, v39, v40, w0, w0', b0, b0', r0,
    w1, w1', b1, b1', r1, w2, w2', b2, b2', r2⟩ := h
  have e0 := residual_val r0 n
  rw [wt3_val (a := .of main_v41) (y := .of main_v42) 0 w0.symm w0', bs3_val (a := .of main_v43) (y := .of main_v44) 0 b0.symm b0'] at e0
  have e1 := residual_val r1 n
  rw [wt3_val (a := .of main_v46) (y := .of main_v47) 1 w1.symm w1', bs3_val (a := .of main_v48) (y := .of main_v49) 1 b1.symm b1'] at e1
  have e2 := residual_val r2 n
  rw [wt3_val (a := .of main_v51) (y := .of main_v52) 2 w2.symm w2', bs3_val (a := .of main_v53) (y := .of main_v54) 2 b2.symm b2'] at e2
  refine e2.trans ?_
  unfold blocks
  refine congrArg (fun f => layer f _ _) (e1.trans ?_)
  exact congrArg (fun f => layer f _ _) e0

end Cert.RefMain

end
-- ==== Proof.KernelVal.lean ====
/- The kernel's result in the program's arguments: three residual blocks of the prior's features, image by image. -/
module

public import proofs.«01_k».proof.Proof.Regions
public import proofs.«01_k».proof.Proof.Host
public import proofs.«01_k».proof.Proof.RefMain

@[expose] public section

set_option maxRecDepth 16384

noncomputable section

namespace Cert.KernelVal

open Idealize.ShloMosaic Cert.KernelIdeal Cert.KernelIdeal.Gen Cert.Store Cert.Spec Cert.Conv Cert.Regions
open Idealize.ShloMosaic.TcCoe
open Cert.RefMain (wt3 bs3 blocks)
open Cert.RefConv (im)
open Cert.Prior (prior)

variable (m : (ℓ : Loc nD τ sig) → Buf (Elt Ideal) ℓ) (ρ : Dev nD → PrngReg) (c : Dev nD)

/-! ## The arrays each kernel reads -/

/-- An argument as launched. -/
abbrev arg (r : Ref sig .tc) : r.ty.Contents (Elt Ideal) := m ((c : Thread nD τ).loc r)

/-- An image's features. -/
def start (b : Fin 8) : Im := prior (im (arg m c main_arg0) b)
  (fun i o => (arg m c main_arg1 : FVec Ideal S384x384x1x1 .f32) (ix4 o i 0 0))
  (fun o k => (arg m c main_arg2 : FVec Ideal S20x384x1x1 .f32) (ix4 k o 0 0))
  (fun k => (arg m c main_arg3 : FVec Ideal S20 .f32) (ix1 k))
  (fun k => (arg m c main_arg7 : FVec Ideal S8x20x1x1 .f32) (ix4 b k 0 0))
  (fun k i => (arg m c main_arg4 : FVec Ideal S20x384 .f32) (ix2 k i))

theorem feat_eq (b : Fin 8) : Cert.KPrior.feat (V1 m ρ c main_v0) (V1 m ρ c main_v2) (V1 m ρ c main_v4) (V1 m ρ c main_v5)
    (V1 m ρ c main_v6) (V1 m ρ c main_arg4) b = start m c b := by
  have e0 : Cert.KPrior.imx (V1 m ρ c main_v0) b = im (arg m c main_arg0) b := by
    funext r i
    exact Cert.Host.v0 (W0 m ρ c) b _ _ i
  have e1 : (fun i o => (V1 m ρ c main_v2 : FVec Ideal S384x384 .f32) (ix2 i o))
      = fun i o => (arg m c main_arg1 : FVec Ideal S384x384x1x1 .f32) (ix4 o i 0 0) := by
    funext i o
    exact Cert.Host.v2 (W0 m ρ c) i o
  have e2 : (fun o k => (V1 m ρ c main_v4 : FVec Ideal S384x20 .f32) (ix2 o k))
      = fun o k => (arg m c main_arg2 : FVec Ideal S20x384x1x1 .f32) (ix4 k o 0 0) := by
    funext o k
    exact Cert.Host.v4 (W0 m ρ c) o k
  have e3 : (fun k => (V1 m ρ c main_v5 : FVec Ideal S1x20 .f32) (ix2 0 k)) = fun k => (arg m c main_arg3 : FVec Ideal S20 .f32) (ix1 k) := by
    funext k
    exact Cert.Host.v5 (W0 m ρ c) k
  have e4 : (fun k => (V1 m ρ c main_v6 : FVec Ideal S8x20 .f32) (ix2 b k))
      = fun k => (arg m c main_arg7 : FVec Ideal S8x20x1x1 .f32) (ix4 b k 0 0) := by
    funext k
    exact Cert.Host.v6 (W0 m ρ c) b k
  unfold Cert.KPrior.feat start
  rw [e0, e1, e2, e3, e4, show V1 m ρ c main_arg4 = arg m c main_arg4 from W1_args m ρ c main_arg4 (by decide)]

theorem wts0 : wts (V1 m ρ c main_v11) = wt3 (arg m c main_arg5) 0 := by
  funext k t i o
  exact Cert.Host.v11 (W0 m ρ c) k t i o

theorem bss0 : bss (V1 m ρ c main_v23) = bs3 (arg m c main_arg6) 0 := by
  funext k o
  exact Cert.Host.v23 (W0 m ρ c) k o

/-- What the first kernel does not write, the second finds as the host left it. -/
theorem kept (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem wts1 : wts (V3 m ρ c main_v16) = wt3 (arg m c main_arg5) 1 := by
  rw [kept m ρ c main_v16 (by decide) (by decide)]
  funext k t i o
  exact Cert.Host.v16 (W0 m ρ c) k t i o

theorem wts2 : wts (V3 m ρ c main_v21) = wt3 (arg m c main_arg5) 2 := by
  rw [kept m ρ c main_v21 (by decide) (by decide)]
  funext k t i o
  exact Cert.Host.v21 (W0 m ρ c) k t i o

theorem bss1 : bss (V3 m ρ c main_v26) = bs3 (arg m c main_arg6) 1 := by
  funext k o
  exact (Cert.Host.v26 (W2 m ρ c) k o).trans (congrFun (W2_args m ρ c main_arg6 (by decide)) _)

theorem bss2 : bss (V3 m ρ c main_v28) = bs3 (arg m c main_arg6) 2 := by
  funext k o
  exact (Cert.Host.v28 (W2 m ρ c) k o).trans (congrFun (W2_args m ρ c main_arg6 (by decide)) _)

/-! ## From the first kernel to the second, and to the result -/

theorem between : Whole (V3 m ρ c main_v24) (fun b => img (layer (start m c (Fin.ofNat 8 b)) (wt3 (arg m c main_arg5) 0)
    (bs3 (arg m c main_arg6) 0))) := by
  rw [show V3 m ρ c main_v24 = outsAt0 (V1 m ρ) c t0 from
    (W3_of m ρ c main_v24 (by decide)).trans ((W2_arr m ρ c 8).trans (arr0 (V1 m ρ) c))]
  have h := first (V1 m ρ) c
  simp only [feat_eq m ρ c, wts0 m ρ c, bss0 m ρ c] at h
  exact h

/-- The kernel's result, entry by entry. -/
theorem result (b : Fin 8) (o : Fin 384) (y x : Fin 24) :
    (W5 m ρ c (Proc.devRef .tc main_v30) : FVec Ideal S8x384x24x24 .f32) (ix4 b o y x)
      = blocks (start m c b) (arg m c main_arg5) (arg m c main_arg6) ⟨24 * y.val + x.val, by omega⟩ o := by
  refine (Cert.Host.v30 (W4 m ρ c) b o y x).trans ?_
  refine (congrFun ((W4_arr m ρ c 5).trans (arr1 (V3 m ρ) c)) _).trans ?_
  refine (second (V3 m ρ) c (between m ρ c) b y x o).trans ?_
  rw [wts1 m ρ c, wts2 m ρ c, bss1 m ρ c, bss2 m ρ c, show (Fin.ofNat 8 b.val) = b from Fin.ext (Nat.mod_eq_of_lt b.isLt)]
  rfl

end Cert.KernelVal

end
-- ==== Proof.RefPrior.lean ====
/- The features the reference's residual blocks start from: its pooled map, gate, scores and hard choice. -/
module

public import proofs.«01_k».proof.Proof.RefMain
public import proofs.«01_k».proof.Proof.Prior

@[expose] public section

set_option maxRecDepth 16384
set_option maxHeartbeats 2000000

noncomputable section

namespace Cert.RefPrior

open Idealize.ShloMosaic Idealize.ShloMosaic.StableHlo Cert.ReferenceIdeal Cert.Line Cert.RefRun Cert.Spec Cert.Prior Cert.RefConv Cert.RefMain
open Cert.ReferenceIdeal.Facts Cert.ReferenceIdeal.Facts₀

variable [Facts] {U : Valuation τ sig (Elt Ideal)}

theorem ofBits_bot : Ideal.ofBits FTy.f32 4286578688#32 = ⊥ := by
  simp [Ideal.ofBits, Ideal.ieee]

theorem reducer_eq (a b : EReal × BitVec 32) : reducer_argmax_f32_i32 (F := Ideal) a b = pick a b := by
  obtain ⟨a, i⟩ := a
  obtain ⟨b, j⟩ := b
  simp only [reducer_argmax_f32_i32, pick, Ideal.cmpf_def, Ideal.cmp, Scalar.select, IntOp.ori, IntOp.andi, IntOp.cmpi]
  rcases lt_trichotomy a b with h | h | h
  · simp [h.ne, not_lt.2 h.le]
  · subst h
    by_cases g : i.toInt < j.toInt <;> simp [g, BitVec.slt]
  · simp [h, h.ne']

theorem argmax_val {x : TRef sig ⟨S8x20x1x1, .f32⟩} {φ : fn_argmax.Bufs} (h : Holds U (argmaxOps (F := Ideal) x φ).1) (n : Fin 8)
    (y : Fin 20 → EReal) (hy : ∀ k, val U x (ix4 n k 0 0) = y k) : val U φ.v1_1 (ix3 n 0 0) = BitVec.ofNat 32 (best y).val := by
  simp only [argmaxOps, holds_cons, holds_nil, and_true, nul_holds, quat_holds, toBuf_eq, ofBuf_eq] at h
  obtain ⟨h0, h1, h2, -, h3⟩ := h
  rw [h3, h0, h1, h2]
  show (Host.argReduce _ _ _ _ _ _ _ _).2 = _
  rw [Ideal.argReduce_eq_reduce2, Host.reduce2_eq_foldl_fiber, show reducer_argmax_f32_i32 (F := Ideal) = pick from funext fun a => funext fun b => reducer_eq a b]
  rw [← foldl_best y]
  · refine congrArg (fun p => (List.foldl pick p _).2) ?_
    exact Prod.ext ofBits_bot rfl
  · intro p
    unfold Host.argReduceFiber
    simp only [List.mem_map, List.mem_filter, List.mem_finRange, true_and, decide_eq_true_eq]
    constructor
    · rintro ⟨m, hm, rfl⟩
      generalize S8x20x1x1.rowMajor.symm m = i at hm
      have i0 : i 0 = n := congrFun hm 0
      obtain ⟨a, k, e, e', rfl⟩ : ∃ a k e e', i = ix4 a k e e' := ⟨i 0, i 1, i 2, i 3, by
        funext b
        fin_cases b <;> rfl⟩
      obtain rfl : a = n := i0
      obtain rfl : e = 0 := Subsingleton.elim _ _
      obtain rfl : e' = 0 := Subsingleton.elim _ _
      exact ⟨k, Prod.ext (hy k) rfl⟩
    · rintro ⟨k, rfl⟩
      refine ⟨S8x20x1x1.rowMajor (ix4 n k 0 0), ?_, ?_⟩
      · rw [Equiv.symm_apply_apply]
        funext b
        fin_cases b <;> rfl
      · rw [Equiv.symm_apply_apply]
        exact Prod.ext (hy k) rfl

theorem onehot_val {x : TRef sig ⟨S8x1x1, .i32⟩} {φ : fn_one_hot.Bufs} (h : Holds U (oneHotOps (F := Ideal) x φ).1) (n : Fin 8)
    (y : Fin 20 → EReal) (hy : val U x (ix3 n 0 0) = BitVec.ofNat 32 (best y).val) (k : Fin 20) : val U φ.v5 (ix4 n k 0 0) = hot y k := by
  simp only [oneHotOps, holds_cons, holds_nil, and_true, nul_holds, un_holds, bin_holds, toBuf_eq, ofBuf_eq] at h
  obtain ⟨h0, h1, h2, h3, h4, h5⟩ := h
  rw [h5, h4, h3, h2, h1, h0]
  pointwise
  rw [hy]
  unfold hot
  by_cases e : k = best y
  · subst e
    simp [IntOp.cmpi, FloatOps.uitofp]
  · rw [if_neg e]
    have := cmpi_eq_best y k
    rw [if_neg e] at this
    have g : IntOp.cmpi .eq (BitVec.ofNat 32 (best y).val) (BitVec.ofNat 32 k.val) = 0#1 := by
      rw [← this]
      simp only [IntOp.cmpi]
      exact congrArg BitVec.ofBool (Bool.beq_comm)
    rw [g]
    simp [FloatOps.uitofp]

theorem main_val (d : Dev nD) (h : Holds U (mainOps (F := Ideal) d).1) (n : Fin 8)
    (hp : ∀ o k, IsReal ((at' U main_arg2 : FVec Ideal S20x384x1x1 .f32) (ix4 k o 0 0)))
    (hb : ∀ k, IsReal ((at' U main_arg3 : FVec Ideal S20 .f32) (ix1 k)))
    (hg : ∀ k, IsReal ((at' U main_arg7 : FVec Ideal S8x20x1x1 .f32) (ix4 n k 0 0))) :
    im (at' U main_v40 : Arr) n = prior (im (at' U main_arg0 : Arr) n)
      (fun i o => (at' U main_arg1 : FVec Ideal S384x384x1x1 .f32) (ix4 o i 0 0))
      (fun o k => (at' U main_arg2 : FVec Ideal S20x384x1x1 .f32) (ix4 k o 0 0))
      (fun k => (at' U main_arg3 : FVec Ideal S20 .f32) (ix1 k))
      (fun k => (at' U main_arg7 : FVec Ideal S8x20x1x1 .f32) (ix4 n k 0 0))
      (fun k c => (at' U main_arg4 : FVec Ideal S20x384 .f32) (ix2 k c)) := by
  simp only [mainOps, mainOps0, mainOps1, holds_append, holds_cons, holds_nil, and_true, nul_holds, un_holds, bin_holds,
    toBuf_eq, ofBuf_eq, and_assoc] at h
  obtain ⟨c0, v0, v1, c1, v2, v3, v4, v5, v6, v7, v8, c2, v9, v10, c3, v11, v12, v13, v14, v15, v16, v17, v18, v19, c4, v20, v21, c5, v22, c6,
    v23, v24, v25, v26, v27, v28, c7, v29, v30, v31, v32, am, oh, v35, v36, v37, v38, v39, v40, -⟩ := h
  have e4 : _ = _ := val_resh (a := .of main_arg1) (y := .of main_v4) shapeCasts_S384x384x1x1_S384x384 v4
  have e13 : _ = _ := val_resh (a := .of main_arg2) (y := .of main_v13) shapeCasts_S20x384x1x1_S20x384 v13
  set f := im (at' U main_arg0 : Arr) n
  have e3 : ∀ c, (U (Proc.devRef .tc main_v3) : FVec Ideal S8x384x1x1 .f32) (ix4 n c 0 0) = Cert.Prior.pool f c := by
    intro c
    rw [← v3, ← v2, ← c1, ← v1, ← v0, ← c0]
    pointwise
    unfold Cert.Prior.pool
    refine congrArg (Ideal.div · _) ?_
    rw [← (finProdFinEquiv (m := 24) (n := 24)).sum_comp, Fintype.sum_prod_type]
    refine Finset.sum_congr rfl fun p _ => Finset.sum_congr rfl fun q _ => ?_
    have ep : (finProdFinEquiv (p, q)).val / 24 = p.val := by simp only [finProdFinEquiv_apply_val]; omega
    have eq : (finProdFinEquiv (p, q)).val % 24 = q.val := by simp only [finProdFinEquiv_apply_val]; omega
    exact congrArg₂ (fun p q => (at' U main_arg0 : Arr) (ix4 n c p q)) (Fin.ext ep.symm) (Fin.ext eq.symm)
  set wm : Fin 384 → Fin 384 → EReal := fun i o => (at' U main_arg1 : FVec Ideal S384x384x1x1 .f32) (ix4 o i 0 0)
  have e4' : ∀ o i, (U (Proc.devRef .tc main_v4) : FVec Ideal S384x384 .f32) (ix2 o i) = wm i o := by
    intro o i
    refine (congrFun e4 _).trans ?_
    pointwise
    rfl
  have e12 : ∀ o, (U (Proc.devRef .tc main_v12) : FVec Ideal S8x384x1x1 .f32) (ix4 n o 0 0) = gate f wm o := by
    intro o
    rw [← v12, ← v11, ← c3, ← v10, ← v9, ← c2, ← v8, ← v7, ← v6, ← v5]
    pointwise
    simp only [e3, e4', mul_comm (wm _ _)]
    rfl
  set wp : Fin 384 → Fin 20 → EReal := fun o k => (at' U main_arg2 : FVec Ideal S20x384x1x1 .f32) (ix4 k o 0 0)
  set pb : Fin 20 → EReal := fun k => (at' U main_arg3 : FVec Ideal S20 .f32) (ix1 k)
  set g : Fin 20 → EReal := fun k => (at' U main_arg7 : FVec Ideal S8x20x1x1 .f32) (ix4 n k 0 0)
  have e13' : ∀ k o, (U (Proc.devRef .tc main_v13) : FVec Ideal S20x384 .f32) (ix2 k o) = wp o k := by
    intro k o
    refine (congrFun e13 _).trans ?_
    pointwise
    rfl
  have e21 : ∀ k, (U (Proc.devRef .tc main_v21) : FVec Ideal S8x20x1x1 .f32) (ix4 n k 0 0) = score f wm wp pb g k := by
    intro k
    rw [← v21, ← v20, ← c4, ← v19, ← v18, ← v17, ← v16, ← v15, ← v14]
    pointwise
    simp only [e12, e13', mul_comm (wp _ _)]
    rw [div_one]
    rfl
  have real := score_fin (f := f) (wm := wm) hp hb hg
  set y := score f wm wp pb g
  have e26 : ∀ k, (U (Proc.devRef .tc main_v26) : FVec Ideal S8x20x1x1 .f32) (ix4 n k 0 0) = y (best y) := by
    intro k
    rw [← v26, ← v25, ← v24, ← v23, ← c6, ← v22, ← c5]
    pointwise
    simp only [e21, ofBits_bot, fold_max]
    exact max_eq_right (bot_le (a := y (best y)))
  have e28 : ∀ k, (U (Proc.devRef .tc main_v28) : FVec Ideal S8x20x1x1 .f32) (ix4 n k 0 0) = Ideal.exp (y k - y (best y)) := by
    intro k
    rw [← v28, ← v27]
    pointwise
    rw [e21, e26]
  have e32 : ∀ k, (U (Proc.devRef .tc main_v32) : FVec Ideal S8x20x1x1 .f32) (ix4 n k 0 0)
      = Ideal.div (Ideal.exp (y k - y (best y))) (∑ j, Ideal.exp (y j - y (best y))) := by
    intro k
    rw [← v32, ← v31, ← v30, ← v29, ← c7]
    pointwise
    simp only [e28]
  have e34 : ∀ k, (U (Proc.devRef .tc main_v34) : FVec Ideal S8x20x1x1 .f32) (ix4 n k 0 0) = hot y k :=
    fun k => onehot_val oh n y (argmax_val am n y e21) k
  have e36 : ∀ k, (U (Proc.devRef .tc main_v36) : FVec Ideal S8x20x1x1 .f32) (ix4 n k 0 0) = hot y k := by
    intro k
    rw [← v36, ← v35]
    pointwise
    rw [e34, e32]
    exact straight real (real _) (hot_fin y k) k
  funext r c
  unfold im
  show (U (Proc.devRef .tc main_v40) : Arr) _ = _
  rw [← v40, ← v39, ← v38, ← v37]
  pointwise
  simp only [e36, mul_comm _ (hot y _)]
  rfl

end Cert.RefPrior

end
-- ==== Proof.Pre.lean ====
/- The precondition, read: every weight and bias of the scores, and the noise added to them, is a finite number. -/
module

public import proofs.«01_k».proof.Pre_finite_scores
public import proofs.«01_k».proof.Proof.Prior

@[expose] public section

noncomputable section

namespace Cert.Pre

open Idealize.ShloMosaic Cert.Prior Cert.Pre_finite_scores

/-- What the precondition's own operations ask of their shapes. -/
theorem facts : Facts := ⟨by decide, by decide, by decide⟩

theorem ofBits_top : Ideal.ofBits FTy.f32 2139095040#32 = ⊤ := by
  simp [Ideal.ofBits, Ideal.ieee]

/-- A number whose magnitude is below infinity is finite. -/
theorem isReal_of_abs {x : EReal} (h : max x (-x) < ⊤) : IsReal x := by
  induction x using EReal.rec with
  | bot => simp at h
  | top => simp at h
  | coe r => exact ⟨r, rfl⟩

theorem isReal_of_bit {x : Ideal .f32} (h : BitVec.ofBool (decide (FloatOps.absf x < Ideal.ofBits FTy.f32 2139095040#32)) = 1#1) : IsReal x := by
  refine isReal_of_abs ?_
  rw [ofBits_top] at h
  by_contra hn
  rw [decide_eq_false (show ¬ FloatOps.absf x < (⊤ : EReal) from hn)] at h
  exact absurd h (by decide)

variable [Facts] {a0 : FVec Ideal S8x384x24x24 .f32} {a1 : FVec Ideal S384x384x1x1 .f32} {a2 : FVec Ideal S20x384x1x1 .f32}
  {a3 : FVec Ideal S20 .f32} {a4 : FVec Ideal S20x384 .f32} {a5 : FVec Ideal S3x2x384x384x3x3 .f32} {a6 : FVec Ideal S3x2x384 .f32}
  {a7 : FVec Ideal S8x20x1x1 .f32}

theorem proj (h : (fn a0 a1 a2 a3 a4 a5 a6 a7).1 = fun _ => 1#1) (k : Fin 20) (o : Fin 384) : IsReal (a2 (ix4 k o 0 0)) := by
  have e := congrFun h (ix4 k o 0 0)
  unfold fn at e
  revert e
  pointwise
  exact isReal_of_bit

theorem bias (h : (fn a0 a1 a2 a3 a4 a5 a6 a7).2.1 = fun _ => 1#1) (k : Fin 20) : IsReal (a3 (ix1 k)) := by
  have e := congrFun h (ix1 k)
  unfold fn at e
  revert e
  pointwise
  exact isReal_of_bit

theorem noise (h : (fn a0 a1 a2 a3 a4 a5 a6 a7).2.2 = fun _ => 1#1) (b : Fin 8) (k : Fin 20) : IsReal (a7 (ix4 b k 0 0)) := by
  have e := congrFun h (ix4 b k 0 0)
  unfold fn at e
  revert e
  pointwise
  exact isReal_of_bit

end Cert.Pre

end
-- ==== Proof.Algebraic.lean ====
/- The value claim: the kernel and the reference end with equal results. -/
module

public import proofs.«01_k».proof.Defs
public import proofs.«01_k».proof.Proof.KernelRun
public import proofs.«01_k».proof.Proof.KernelVal
public import proofs.«01_k».proof.Proof.RefPrior
public import proofs.«01_k».proof.Proof.Pre

@[expose] public section

set_option maxRecDepth 16384

noncomputable section

namespace Cert.Algebraic

open Idealize.ShloMosaic Idealize.SL.Sem
open Cert.RefConv (im)
open Cert.RefMain (at' blocks)
open Cert.RefRun (final final_arg final_holds)

variable [Cert.ReferenceIdeal.Facts]

/-- An array at an entry, read off its image. -/
theorem entry (X : Cert.RefConv.Arr) (b : Fin 8) (o : Fin 384) (y x : Fin 24) :
    X (ix4 b o y x) = im X b ⟨24 * y.val + x.val, by omega⟩ o := by
  unfold im
  have h1 : (24 * y.val + x.val) / 24 = y.val := by omega
  have h2 : (24 * y.val + x.val) % 24 = x.val := by omega
  simp only [h1, h2]

/-- The two results are the same function of the arguments. -/
theorem same [Cert.Pre_finite_scores.Facts]
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite_scores m) (c : Dev Cert.KernelIdeal.nD)
    (a0 : m' ((c.tc : Thread Cert.ReferenceIdeal.nD Cert.ReferenceIdeal.τ).loc Cert.ReferenceIdeal.main_arg0) = Cert.KernelVal.arg m c Cert.KernelIdeal.main_arg0)
    (a1 : m' ((c.tc : Thread Cert.ReferenceIdeal.nD Cert.ReferenceIdeal.τ).loc Cert.ReferenceIdeal.main_arg1) = Cert.KernelVal.arg m c Cert.KernelIdeal.main_arg1)
    (a2 : m' ((c.tc : Thread Cert.ReferenceIdeal.nD Cert.ReferenceIdeal.τ).loc Cert.ReferenceIdeal.main_arg2) = Cert.KernelVal.arg m c Cert.KernelIdeal.main_arg2)
    (a3 : m' ((c.tc : Thread Cert.ReferenceIdeal.nD Cert.ReferenceIdeal.τ).loc Cert.ReferenceIdeal.main_arg3) = Cert.KernelVal.arg m c Cert.KernelIdeal.main_arg3)
    (a4 : m' ((c.tc : Thread Cert.ReferenceIdeal.nD Cert.ReferenceIdeal.τ).loc Cert.ReferenceIdeal.main_arg4) = Cert.KernelVal.arg m c Cert.KernelIdeal.main_arg4)
    (a5 : m' ((c.tc : Thread Cert.ReferenceIdeal.nD Cert.ReferenceIdeal.τ).loc Cert.ReferenceIdeal.main_arg5) = Cert.KernelVal.arg m c Cert.KernelIdeal.main_arg5)
    (a6 : m' ((c.tc : Thread Cert.ReferenceIdeal.nD Cert.ReferenceIdeal.τ).loc Cert.ReferenceIdeal.main_arg6) = Cert.KernelVal.arg m c Cert.KernelIdeal.main_arg6)
    (a7 : m' ((c.tc : Thread Cert.ReferenceIdeal.nD Cert.ReferenceIdeal.τ).loc Cert.ReferenceIdeal.main_arg7) = Cert.KernelVal.arg m c Cert.KernelIdeal.main_arg7) :
    (final m' c (Proc.devRef .tc Cert.ReferenceIdeal.main_v55) : Cert.RefConv.Arr)
      = Cert.KernelIdeal.Gen.W5 m g c (Proc.devRef .tc Cert.KernelIdeal.main_v30) := by
  have h := final_holds (F := Ideal) m' c
  have e0 : at' (final m' c) Cert.ReferenceIdeal.main_arg0 = Cert.KernelVal.arg m c Cert.KernelIdeal.main_arg0 := (final_arg m' c _ (by decide)).trans a0
  have e1 : at' (final m' c) Cert.ReferenceIdeal.main_arg1 = Cert.KernelVal.arg m c Cert.KernelIdeal.main_arg1 := (final_arg m' c _ (by decide)).trans a1
  have e2 : at' (final m' c) Cert.ReferenceIdeal.main_arg2 = Cert.KernelVal.arg m c Cert.KernelIdeal.main_arg2 := (final_arg m' c _ (by decide)).trans a2
  have e3 : at' (final m' c) Cert.ReferenceIdeal.main_arg3 = Cert.KernelVal.arg m c Cert.KernelIdeal.main_arg3 := (final_arg m' c _ (by decide)).trans a3
  have e4 : at' (final m' c) Cert.ReferenceIdeal.main_arg4 = Cert.KernelVal.arg m c Cert.KernelIdeal.main_arg4 := (final_arg m' c _ (by decide)).trans a4
  have e5 : at' (final m' c) Cert.ReferenceIdeal.main_arg5 = Cert.KernelVal.arg m c Cert.KernelIdeal.main_arg5 := (final_arg m' c _ (by decide)).trans a5
  have e6 : at' (final m' c) Cert.ReferenceIdeal.main_arg6 = Cert.KernelVal.arg m c Cert.KernelIdeal.main_arg6 := (final_arg m' c _ (by decide)).trans a6
  have e7 : at' (final m' c) Cert.ReferenceIdeal.main_arg7 = Cert.KernelVal.arg m c Cert.KernelIdeal.main_arg7 := (final_arg m' c _ (by decide)).trans a7
  obtain ⟨p2, p3, p7⟩ := hp c
  funext j
  rw [eq_ix4 j]
  refine Eq.trans ?_ (Cert.KernelVal.result m g c (j 0) (j 1) (j 2) (j 3)).symm
  refine (entry _ _ _ _ _).trans ?_
  refine (congrFun (congrFun (Cert.RefMain.blocks_val c h (j 0)) _) _).trans ?_
  rw [Cert.RefPrior.main_val c h (j 0) (by rw [e2]; exact fun o k => Cert.Pre.proj p2 k o) (by rw [e3]; exact fun k => Cert.Pre.bias p3 k)
    (by rw [e7]; exact fun k => Cert.Pre.noise p7 (j 0) k), e0, e1, e2, e3, e4, e5, e6, e7]
  rfl

/-- The claim. -/
theorem algebraic [Cert.KernelIdeal.Facts] [Cert.Pre_finite_scores.Facts] :
    Cert.algebraic_KernelIdeal_ReferenceIdeal_pre_finite_scores := fun m g m' g' hp ha =>
  ⟨fun c => Cert.KernelIdeal.Gen.W5 m g c (Proc.devRef .tc Cert.KernelIdeal.main_v30),
    (θ_run _ _ _).mono (fun _ h c => by
      have k := h c
      refine ⟨k _ (Cert.KernelIdeal.Gen.mem_uc _ (by decide)), ?_, ?_, ?_, ?_, ?_, ?_, ?_, ?_⟩ <;>
        exact (k _ (Cert.KernelIdeal.Gen.mem_uc _ (by decide))).trans (Cert.KernelIdeal.Gen.W5_args m g c _ (by decide)))
      (Cert.KernelRun.runs m g),
    (θ_run _ _ _).mono (fun _ h c => by
      obtain ⟨a0, a1, a2, a3, a4, a5, a6, a7⟩ := ha c
      refine ⟨(h.1 c _).trans (same m g m' hp c a0 a1 a2 a3 a4 a5 a6 a7), ?_, ?_, ?_, ?_, ?_, ?_, ?_, ?_⟩ <;>
        exact (h.1 c _).trans (final_arg m' c _ (by decide)))
      (Cert.RefRun.runs m' g')⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run with the arguments as launched. -/
theorem frame_ref [Cert.ReferenceIdeal.Facts] : Cert.quiescent_ReferenceIdeal := fun m ρ _ =>
  (θ_run _ _ _).mono (fun _ h => ⟨fun c => by
    refine ⟨?_, ?_, ?_, ?_, ?_, ?_, ?_, ?_⟩ <;>
      exact (h.1 c _).trans (Cert.RefRun.final_arg m c _ (by decide)), h.2⟩) (Cert.RefRun.runs m ρ)

theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, haveI := Cert.Pre.facts; Cert.Algebraic.algebraic⟩

end Cert.Proof

end
